-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v38) = v3 c
          ∧ r.2.mem ((c.tc : Thread Cert.Reference3Ideal.nD Cert.Reference3Ideal.τ).loc Cert.Reference3Ideal.main_v39) = v4 c
          ∧ r.2.mem ((c.tc : Thread Cert.Reference3Ideal.nD Cert.Reference3Ideal.τ).loc Cert.Reference3Ideal.main_v40) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8192x512 : Shape := ⟨3, ![8, 8192, 512]⟩
abbrev S_ : Shape := ⟨0, ![]⟩

class Facts : Prop where
  bitsLt_bf16_f32 : FTy.bits .bf16 < FTy.bits .f32
  bcast_S_S8x8192x8x64 : S_.BroadcastsInDim S8x8192x8x64 (![] : Fin 0 → Fin S8x8192x8x64.rank)
  bcast_S_S8x8192x8x32 : S_.BroadcastsInDim S8x8192x8x32 (![] : Fin 0 → Fin S8x8192x8x32.rank)
  bcast_S_S8x8192x32 : S_.BroadcastsInDim S8x8192x32 (![] : Fin 0 → Fin S8x8192x32.rank)

variable [Facts]

def fn {F : FTy → Type} [FloatOps F] (main_arg0 : FVec F S8x8192x8x64 .bf16) (main_arg1 : FVec F S8x8192x8x32 .bf16) (main_arg2 : FVec F S8x8192x8x64 .bf16) (main_arg3 : FVec F S8x8192x32 .bf16) (main_arg4 : FVec F S8x8192x8x64 .bf16) (main_arg5 : FVec F S8x8192x512 .bf16) : IVec S8x8192x8x64 1 × IVec S8x8192x8x32 1 × IVec S8x8192x8x64 1 × IVec S8x8192x32 1 :=
  let main_v0 : FVec F S8x8192x8x64 .f32 := (extf .f32 · bitsLt_bf16_f32) main_arg0
  let main_v1 : FVec F S8x8192x8x64 .f32 := Host.absf main_v0
  let main_cst : FVec F S_ .f32 := constant S_ .f32 0x7F800000#32
  let main_v2 : FVec F S8x8192x8x64 .f32 := broadcastInDim S8x8192x8x64 ![] bcast_S_S8x8192x8x64 main_cst
  let main_v3 : IVec S8x8192x8x64 1 := cmpf .olt main_v1 main_v2
  let main_v4 : FVec F S8x8192x8x32 .f32 := (extf .f32 · bitsLt_bf16_f32) main_arg1
  let main_v5 : FVec F S8x8192x8x32 .f32 := Host.absf main_v4
  let main_cst_0 : FVec F S_ .f32 := constant S_ .f32 0x7F800000#32
  let main_v6 : FVec F S8x8192x8x32 .f32 := broadcastInDim S8x8192x8x32 ![] bcast_S_S8x8192x8x32 main_cst_0
  let main_v7 : IVec S8x8192x8x32 1 := cmpf .olt main_v5 main_v6
  let main_v8 : FVec F S8x8192x8x64 .f32 := (extf .f32 · bitsLt_bf16_f32) main_arg2
  let main_v9 : FVec F S8x8192x8x64 .f32 := Host.absf main_v8
  let main_cst_1 : FVec F S_ .f32 := constant S_ .f32 0x7F800000#32
  let main_v10 : FVec F S8x8192x8x64 .f32 := broadcastInDim S8x8192x8x64 ![] bcast_S_S8x8192x8x64 main_cst_1
  let main_v11 : IVec S8x8192x8x64 1 := cmpf .olt main_v9 main_v10
  let main_v12 : FVec F S8x8192x32 .f32 := (extf .f32 · bitsLt_bf16_f32) main_arg3
  let main_v13 : FVec F S8x8192x32 .f32 := Host.absf main_v12
  let main_cst_2 : FVec F S_ .f32 := constant S_ .f32 0x7F800000#32
  let main_v14 : FVec F S8x8192x32 .f32 := broadcastInDim S8x8192x32 ![] bcast_S_S8x8192x32 main_cst_2
  let main_v15 : IVec S8x8192x32 1 := cmpf .olt main_v13 main_v14
  (main_v3, main_v7, main_v11, main_v15)
-- ==== Kernel.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8192x512 : Shape := ⟨3, ![8, 8192, 512]⟩
abbrev S_ : Shape := ⟨0, ![]⟩
abbrev S8x8192x8x128 : Shape := ⟨4, ![8, 8192, 8, 128]⟩
abbrev S8x8192x1x32 : Shape := ⟨4, ![8, 8192, 1, 32]⟩
abbrev S8x8x64x8192 : Shape := ⟨4, ![8, 8, 64, 8192]⟩
abbrev S8x8x16x8192 : Shape := ⟨4, ![8, 8, 16, 8192]⟩
abbrev S8x8x80x8192 : Shape := ⟨4, ![8, 8, 80, 8192]⟩
abbrev S8x8192x1024 : Shape := ⟨3, ![8, 8192, 1024]⟩
abbrev S8x640x8192 : Shape := ⟨3, ![8, 640, 8192]⟩
abbrev S1x512x1024 : Shape := ⟨3, ![1, 512, 1024]⟩
abbrev S1x2048x1024 : Shape := ⟨3, ![1, 2048, 1024]⟩
abbrev S1x640x2048 : Shape := ⟨3, ![1, 640, 2048]⟩
abbrev S1x512x512 : Shape := ⟨3, ![1, 512, 512]⟩
abbrev S8x512 : Shape := ⟨2, ![8, 512]⟩
abbrev S640x512 : Shape := ⟨2, ![640, 512]⟩
abbrev S3x2048x512 : Shape := ⟨3, ![3, 2048, 512]⟩
abbrev S1 : Shape := ⟨1, ![1]⟩
abbrev S1x16x128 : Shape := ⟨3, ![1, 16, 128]⟩
abbrev S16x128 : Shape := ⟨2, ![16, 128]⟩
abbrev S1x512x128 : Shape := ⟨3, ![1, 512, 128]⟩
abbrev S512x128 : Shape := ⟨2, ![512, 128]⟩
abbrev S16x512 : Shape := ⟨2, ![16, 512]⟩
abbrev S512 : Shape := ⟨1, ![512]⟩
abbrev S1x512 : Shape := ⟨2, ![1, 512]⟩
abbrev S1x2048x128 : Shape := ⟨3, ![1, 2048, 128]⟩
abbrev S2048x128 : Shape := ⟨2, ![2048, 128]⟩
abbrev S2048x512 : Shape := ⟨2, ![2048, 512]⟩
abbrev S1x80x2048 : Shape := ⟨3, ![1, 80, 2048]⟩
abbrev S80x2048 : Shape := ⟨2, ![80, 2048]⟩
abbrev S80x512 : Shape := ⟨2, ![80, 512]⟩
abbrev S1x8x512 : Shape := ⟨3, ![1, 8, 512]⟩
abbrev S1x1x1 : Shape := ⟨3, ![1, 1, 1]⟩
abbrev S1x2048x512 : Shape := ⟨3, ![1, 2048, 512]⟩
abbrev S1x64x512 : Shape := ⟨3, ![1, 64, 512]⟩
abbrev S64x512 : Shape := ⟨2, ![64, 512]⟩
abbrev S512x512 : Shape := ⟨2, ![512, 512]⟩

abbrev nBuf : Space → Nat
  | .hbm => 36
  | .vmem => 15
  | .smem => 1
  | _ => 0

abbrev bufTy : (tb : Table) → Fin (tcTables nBuf tb) → BufTy
  | .hbm, ⟨0, _⟩ => ⟨S8x8192x8x64, .bf16⟩
  | .hbm, ⟨1, _⟩ => ⟨S8x8192x8x32, .bf16⟩
  | .hbm, ⟨2, _⟩ => ⟨S8x8192x8x64, .bf16⟩
  | .hbm, ⟨3, _⟩ => ⟨S8x8192x32, .bf16⟩
  | .hbm, ⟨4, _⟩ => ⟨S8x8192x8x64, .bf16⟩
  | .hbm, ⟨5, _⟩ => ⟨S8x8192x512, .bf16⟩
  | .hbm, ⟨6, _⟩ => ⟨S_, .bf16⟩
  | .hbm, ⟨7, _⟩ => ⟨S8x8192x8x32, .bf16⟩
  | .hbm, ⟨8, _⟩ => ⟨S8x8192x8x128, .bf16⟩
  | .hbm, ⟨9, _⟩ => ⟨S8x8192x8x128, .f32⟩
  | .hbm, ⟨10, _⟩ => ⟨S_, .f32⟩
  | .hbm, ⟨11, _⟩ => ⟨S8x8192x8x128, .f32⟩
  | .hbm, ⟨12, _⟩ => ⟨S8x8192x8x128, .f32⟩
  | .hbm, ⟨13, _⟩ => ⟨S8x8192x8x128, .bf16⟩
  | .hbm, ⟨14, _⟩ => ⟨S8x8192x1x32, .bf16⟩
  | .hbm, ⟨15, _⟩ => ⟨S8x8192x8x32, .bf16⟩
  | .hbm, ⟨16, _⟩ => ⟨S8x8192x8x128, .bf16⟩
  | .hbm, ⟨17, _⟩ => ⟨S8x8x64x8192, .bf16⟩
  | .hbm, ⟨18, _⟩ => ⟨S_, .bf16⟩
  | .hbm, ⟨19, _⟩ => ⟨S8x8x16x8192, .bf16⟩
  | .hbm, ⟨20, _⟩ => ⟨S8x8x80x8192, .bf16⟩
  | .hbm, ⟨21, _⟩ => ⟨S8x8192x512, .f32⟩
  | .hbm, ⟨22, _⟩ => ⟨S8x8192x512, .f32⟩
  | .hbm, ⟨23, _⟩ => ⟨S8x8192x512, .f32⟩
  | .hbm, ⟨24, _⟩ => ⟨S_, .f32⟩
  | .hbm, ⟨25, _⟩ => ⟨S8x8192x512, .f32⟩
  | .hbm, ⟨26, _⟩ => ⟨S8x8192x512, .f32⟩
  | .hbm, ⟨27, _⟩ => ⟨S_, .f32⟩
  | .hbm, ⟨28, _⟩ => ⟨S8x8192x512, .f32⟩
  | .hbm, ⟨29, _⟩ => ⟨S8x8192x512, .f32⟩
  | .hbm, ⟨30, _⟩ => ⟨S8x8192x512, .f32⟩
  | .hbm, ⟨31, _⟩ => ⟨S8x8192x512, .bf16⟩
  | .hbm, ⟨32, _⟩ => ⟨S8x8192x1024, .bf16⟩
  | .hbm, ⟨33, _⟩ => ⟨S8x8192x1024, .bf16⟩
  | .hbm, ⟨34, _⟩ => ⟨S8x640x8192, .bf16⟩
  | .hbm, ⟨35, _⟩ => ⟨S8x8192x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x640x2048, .bf16⟩
  | .local _ .vmem, ⟨5, _⟩ => ⟨S1x640x2048, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S8x512, .f32⟩
  | .local _ .vmem, ⟨11, _⟩ => ⟨S640x512, .f32⟩
  | .local _ .vmem, ⟨12, _⟩ => ⟨S3x2048x512, .f32⟩
  | .local _ .vmem, ⟨13, _⟩ => ⟨S3x2048x512, .bf16⟩
  | .local _ .vmem, ⟨14, _⟩ => ⟨S640x512, .f32⟩
  | .local _ .smem, ⟨0, _⟩ => ⟨S1, .i32⟩
  | _, _ => ⟨S8x8192x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 4], ![false, false, false]⟩

def k0_cond4 (i : grid0.Coords) : BitVec 1 :=
  let arg2 : BitVec 32 := BitVec.ofNat 32 (i 2).val
  let c3_i32 : BitVec 32 := 3#32
  let v176 : BitVec 1 := Scalar.cmpi .eq arg2 c3_i32
  let v177 : BitVec 32 := Scalar.extui v176
  let c0_i32_127 : BitVec 32 := 0#32
  let v178 : BitVec 1 := Scalar.cmpi .ne v177 c0_i32_127
  v178

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8192x512 : Shape := ⟨3, ![8, 8192, 512]⟩
abbrev S8x8x8192x8192 : Shape := ⟨4, ![8, 8, 8192, 8192]⟩
abbrev S8x8192x8192x8 : Shape := ⟨4, ![8, 8192, 8192, 8]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8x8192x8x64, .bf16⟩
  | .hbm, ⟨1, _⟩ => ⟨S8x8192x8x32, .bf16⟩
  | .hbm, ⟨2, _⟩ => ⟨S8x8192x8x64, .bf16⟩
  | .hbm, ⟨3, _⟩ => ⟨S8x8192x32, .bf16⟩
  | .hbm, ⟨4, _⟩ => ⟨S8x8192x8x64, .bf16⟩
  | .hbm, ⟨5, _⟩ => ⟨S8x8192x512, .bf16⟩
  | .hbm, ⟨6, _⟩ => ⟨S8x8x8192x8192, .f32⟩
  | .hbm, ⟨7, _⟩ => ⟨S8x8x8192x8192, .bf16⟩
  | .hbm, ⟨8, _⟩ => ⟨S8x8192x8192x8, .f32⟩
  | .hbm, ⟨9, _⟩ => ⟨S8x8x8192x8192, .f32⟩
  | .hbm, ⟨10, _⟩ => ⟨S8x8x8192x8192, .bf16⟩
  | .hbm, ⟨11, _⟩ => ⟨S8x8x8192x8192, .bf16⟩
  | .hbm, ⟨12, _⟩ => ⟨S8x8x8192x8192, .f32⟩
  | .hbm, ⟨13, _⟩ => ⟨S_, .f32⟩
  | .hbm, ⟨14, _⟩ => ⟨S8x8x8192x8192, .f32⟩
  | .hbm, ⟨15, _⟩ => ⟨S8x8x8192x8192, .f32⟩
  | .hbm, ⟨16, _⟩ => ⟨S_, .f32⟩
  | .hbm, ⟨17, _⟩ => ⟨S8x8x8192, .f32⟩
  | .hbm, ⟨18, _⟩ => ⟨S_, .f32⟩
  | .hbm, ⟨19, _⟩ => ⟨S8x8x8192, .f32⟩
  | .hbm, ⟨20, _⟩ => ⟨S8x8x8192, .f32⟩
  | .hbm, ⟨21, _⟩ => ⟨S8x8x8192x1, .f32⟩
  | .hbm, ⟨22, _⟩ => ⟨S8x8x8192x8192, .f32⟩
  | .hbm, ⟨23, _⟩ => ⟨S8x8x8192x8192, .f32⟩
  | .hbm, ⟨24, _⟩ => ⟨S8x8x8192x8192, .f32⟩
  | .hbm, ⟨25, _⟩ => ⟨S_, .f32⟩
  | .hbm, ⟨26, _⟩ => ⟨S8x8x8192, .f32⟩
  | .hbm, ⟨27, _⟩ => ⟨S8x8x8192x1, .f32⟩
  | .hbm, ⟨28, _⟩ => ⟨S8x8x8192x8192, .f32⟩
  | .hbm, ⟨29, _⟩ => ⟨S8x8x8192x8192, .f32⟩
  | .hbm, ⟨30, _⟩ => ⟨S8x8x8192x8192, .bf16⟩
  | .hbm, ⟨31, _⟩ => ⟨S8x8x64x8192, .f32⟩
  | .hbm, ⟨32, _⟩ => ⟨S8x8192x8x64, .f32⟩
  | .hbm, ⟨33, _⟩ => ⟨S8x8192x8x64, .bf16⟩
  | .hbm, ⟨34, _⟩ => ⟨S8x8192x512, .bf16⟩
  | .hbm, ⟨35, _⟩ => ⟨S8x8192x512, .bf16⟩
  | .hbm, ⟨36, _⟩ => ⟨S8x8192x512, .bf16⟩
  | .hbm, ⟨37, _⟩ => ⟨S_, .bf16⟩
  | .hbm, ⟨38, _⟩ => ⟨S8x8192x512, .bf16⟩
  | .hbm, ⟨39, _⟩ => ⟨S8x8192x512, .bf16⟩
  | .hbm, ⟨40, _⟩ => ⟨S_, .bf16⟩
  | .hbm, ⟨41, _⟩ => ⟨S8x8192x512, .bf16⟩
  | .hbm, ⟨42, _⟩ => ⟨S8x8192x512, .bf16⟩
  | .hbm, ⟨43, _⟩ => ⟨S8x8192x512, .bf16⟩
  | .hbm, ⟨44, _⟩ => ⟨S8x8192x512, .bf16⟩
  | _, _ => ⟨S8x8192x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel2.lean ====
abbrev S65536x512 : Shape := ⟨2, ![65536, 512]⟩
abbrev S65536x1024 : Shape := ⟨2, ![65536, 1024]⟩
abbrev S2x65536x256 : Shape := ⟨3, ![2, 65536, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1024x1024 : Shape := ⟨2, ![1024, 1024]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1024x512 : Shape := ⟨2, ![1024, 512]⟩
abbrev S1x1024x256 : Shape := ⟨3, ![1, 1024, 256]⟩
abbrev S512x1024 : Shape := ⟨2, ![512, 1024]⟩
abbrev S1024x1 : Shape := ⟨2, ![1024, 1]⟩
abbrev S1024x256 : Shape := ⟨2, ![1024, 256]⟩

abbrev nBuf : Space → Nat
  | .hbm => 20
  | .vmem => 14
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S2x65536x256, .f32⟩
  | .hbm, ⟨4, _⟩ => ⟨S1x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2x1024x1024, .bf16⟩
  | .hbm, ⟨14, _⟩ => ⟨S1x1024x1024, .bf16⟩
  | .hbm, ⟨15, _⟩ => ⟨S1024x1024, .bf16⟩
  | .hbm, ⟨16, _⟩ => ⟨S2x256x1024, .bf16⟩
  | .hbm, ⟨17, _⟩ => ⟨S1x256x1024, .bf16⟩
  | .hbm, ⟨18, _⟩ => ⟨S256x1024, .bf16⟩
  | .hbm, ⟨19, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024x256, .f32⟩
  | .local _ .vmem, ⟨7, _⟩ => ⟨S1x1024x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S65536x512 : Shape := ⟨2, ![65536, 512]⟩
abbrev S65536x1024 : Shape := ⟨2, ![65536, 1024]⟩
abbrev S2x65536x256 : Shape := ⟨3, ![2, 65536, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1024 : Shape := ⟨1, ![1024]⟩
abbrev S1x65536x256 : Shape := ⟨3, ![1, 65536, 256]⟩
abbrev S65536x256 : Shape := ⟨2, ![65536, 256]⟩
abbrev S1x256x1024 : Shape := ⟨3, ![1, 256, 1024]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S2x65536x256, .f32⟩
  | .hbm, ⟨4, _⟩ => ⟨S1x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S65536x1024, .bf16⟩
  | .hbm, ⟨9, _⟩ => ⟨S65536x1024, .f32⟩
  | .hbm, ⟨10, _⟩ => ⟨S1024x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S1x1024x1024, .f32⟩
  | .hbm, ⟨32, _⟩ => ⟨S1024x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S1x65536x256, .f32⟩
  | .hbm, ⟨43, _⟩ => ⟨S65536x256, .f32⟩
  | .hbm, ⟨44, _⟩ => ⟨S1x256x1024, .f32⟩
  | .hbm, ⟨45, _⟩ => ⟨S256x1024, .f32⟩
  | .hbm, ⟨46, _⟩ => ⟨S65536x1024, .f32⟩
  | .hbm, ⟨47, _⟩ => ⟨S65536x1024, .f32⟩
  | .hbm, ⟨48, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S65536x1024 : Shape := ⟨2, ![65536, 1024]⟩
abbrev S2x1024 : Shape := ⟨2, ![2, 1024]⟩
abbrev S1x1024x3584 : Shape := ⟨3, ![1, 1024, 3584]⟩
abbrev S1x1024 : Shape := ⟨2, ![1, 1024]⟩
abbrev S1024 : Shape := ⟨1, ![1024]⟩
abbrev S1024x3584 : Shape := ⟨2, ![1024, 3584]⟩
abbrev S65536x512 : Shape := ⟨2, ![65536, 512]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 14
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3584, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024x3584, .f32⟩
  | .hbm, ⟨7, _⟩ => ⟨S1024x3584, .bf16⟩
  | .hbm, ⟨8, _⟩ => ⟨S65536x512, .bf16⟩
  | .hbm, ⟨9, _⟩ => ⟨S65536x512, .bf16⟩
  | .hbm, ⟨10, _⟩ => ⟨S65536x512, .bf16⟩
  | .hbm, ⟨11, _⟩ => ⟨S65536x512, .bf16⟩
  | .hbm, ⟨12, _⟩ => ⟨S65536x512, .bf16⟩
  | .hbm, ⟨13, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S65536x1024 : Shape := ⟨2, ![65536, 1024]⟩
abbrev S2x1024 : Shape := ⟨2, ![2, 1024]⟩
abbrev S1x1024x3584 : Shape := ⟨3, ![1, 1024, 3584]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1024 : Shape := ⟨1, ![1024]⟩
abbrev S1024x3584 : Shape := ⟨2, ![1024, 3584]⟩
abbrev S65536x3584 : Shape := ⟨2, ![65536, 3584]⟩
abbrev S65536x512 : Shape := ⟨2, ![65536, 512]⟩

abbrev nBuf : Space → Nat
  | .hbm => 66
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3584, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S1024x3584, .f32⟩
  | .hbm, ⟨22, _⟩ => ⟨S65536x3584, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S_, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S65536x512, .f32⟩
  | .hbm, ⟨53, _⟩ => ⟨S_, .f32⟩
  | .hbm, ⟨54, _⟩ => ⟨S65536x512, .f32⟩
  | .hbm, ⟨55, _⟩ => ⟨S65536x512, .f32⟩
  | .hbm, ⟨56, _⟩ => ⟨S_, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S65536x512, .bf16⟩
  | .hbm, ⟨61, _⟩ => ⟨S65536x512, .bf16⟩
  | .hbm, ⟨62, _⟩ => ⟨S65536x512, .bf16⟩
  | .hbm, ⟨63, _⟩ => ⟨S65536x512, .bf16⟩
  | .hbm, ⟨64, _⟩ => ⟨S65536x512, .bf16⟩
  | .hbm, ⟨65, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Proof.Run.lean ====
/-
  The kernel's body as a run over the contents of its buffers.

  `St` names what each of the body's eleven memrefs holds, `own` holds all of them at such contents, and `W σ p Q` says
  that the program `p`, run from the contents `σ`, ends with a result and contents that satisfy `Q`. One rule per memory
  operation moves `W` along the program.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ValueKit.Tiles
public import Idealize.ShloMosaic.Lib.ValueIdxCore

@[expose] public section

noncomputable section

namespace Cert.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (UR sig nD τ) ℕ

/-! ## Buffers as blocks -/

/-- The blocks `a j` of `B` rows each, one below another. -/
def gl (n B : ℕ) {C N : ℕ} {V : Type} (h : N = n * B) (a : Fin n → (⟨2, ![B, C]⟩ : Shape).Idx → V) : (⟨2, ![N, C]⟩ : Shape).Idx → V :=
  fun x => a ⟨(x 0).val / B, Nat.div_lt_of_lt_mul ((idx2_lt0 x).trans_eq (h.trans (Nat.mul_comm n B)))⟩
    (ix2 ⟨(x 0).val % B, Nat.mod_lt _ (by have := idx2_lt0 x; rcases B with _ | B <;> simp_all)⟩ (x 1))

/-- The blocks of `B` rows of an array. -/
def ungl (n B : ℕ) {C N : ℕ} {V : Type} (h : N = n * B) (X : (⟨2, ![N, C]⟩ : Shape).Idx → V) : Fin n → (⟨2, ![B, C]⟩ : Shape).Idx → V :=
  fun j y => X (ix2 ⟨j.val * B + (y 0).val, by
    have h1 := idx2_lt0 y
    have h2 : (j.val + 1) * B ≤ n * B := Nat.mul_le_mul_right _ j.isLt
    rw [Nat.add_mul] at h2; omega⟩ (y 1))

theorem gl_ungl {n B C N : ℕ} {V : Type} (h : N = n * B) (X : (⟨2, ![N, C]⟩ : Shape).Idx → V) : gl n B h (ungl n B h X) = X := by
  funext x
  refine Eq.trans ?_ (congrArg X (eq_ix2 x).symm)
  exact congrArg (fun z => X (ix2 z (x 1))) (Fin.ext (Nat.div_add_mod' _ _))

theorem ungl_gl {n B C N : ℕ} {V : Type} (h : N = n * B) (a : Fin n → (⟨2, ![B, C]⟩ : Shape).Idx → V) : ungl n B h (gl n B h a) = a := by
  funext j y
  have h1 := idx2_lt0 y
  refine Eq.trans ?_ (congrArg (a j) (eq_ix2 y).symm)
  have hd : (j.val * B + (y 0).val) / B = j.val := by
    rw [Nat.mul_comm, Nat.mul_add_div (by omega), Nat.div_eq_of_lt h1, Nat.add_zero]
  have hm : (j.val * B + (y 0).val) % B = (y 0).val := by
    rw [Nat.mul_comm, Nat.mul_add_mod, Nat.mod_eq_of_lt h1]
  exact congrArg₂ (fun i z => a i z) (Fin.ext hd) (congrArg (fun z => ix2 z (y 1)) (Fin.ext hm))

/-- The same with one array per index of a leading axis. -/
def gl3 {n R C : ℕ} {V : Type} (a : Fin n → (⟨3, ![1, R, C]⟩ : Shape).Idx → V) : (⟨3, ![n, R, C]⟩ : Shape).Idx → V :=
  fun x => a (x 0) (ix3 0 (x 1) (x 2))

def ungl3 {n R C : ℕ} {V : Type} (X : (⟨3, ![n, R, C]⟩ : Shape).Idx → V) : Fin n → (⟨3, ![1, R, C]⟩ : Shape).Idx → V :=
  fun j y => X (ix3 j (y 1) (y 2))

theorem gl3_ungl3 {n R C : ℕ} {V : Type} (X : (⟨3, ![n, R, C]⟩ : Shape).Idx → V) : gl3 (ungl3 X) = X := by
  exact funext fun x => congrArg X (eq_ix3 x).symm

theorem ungl3_gl3 {n R C : ℕ} {V : Type} (a : Fin n → (⟨3, ![1, R, C]⟩ : Shape).Idx → V) : ungl3 (gl3 a) = a := by
  funext j y
  refine Eq.trans ?_ (congrArg (a j) (eq_ix3 y).symm)
  exact congrArg (fun z => a j (ix3 z (y 1) (y 2))) (Fin.fin_one_eq_zero (y 0)).symm

/-- One block replaced. -/
def upd {n : ℕ} {T : Type} (a : Fin n → T) (j : Fin n) (w : T) : Fin n → T := fun i => cond (Nat.beq i.val j.val) w (a i)

theorem upd_self {n : ℕ} {T : Type} (a : Fin n → T) (j : Fin n) (w : T) : upd a j w j = w := by
  unfold upd; rw [show Nat.beq j.val j.val = true from Nat.beq_refl _]; rfl

theorem upd_ne {n : ℕ} {T : Type} (a : Fin n → T) {i j : Fin n} (w : T) (h : i ≠ j) : upd a j w i = a i := by
  unfold upd
  rw [show Nat.beq i.val j.val = false from by
    cases hb : Nat.beq i.val j.val
    · rfl
    · exact absurd (Fin.ext (Nat.eq_of_beq_eq_true hb)) h]
  rfl

/-- `b` rows of a block, from row `r`. -/
def sub2 {B C : ℕ} {V : Type} (b r : ℕ) (h : r + b ≤ B) (Y : (⟨2, ![B, C]⟩ : Shape).Idx → V) : (⟨2, ![b, C]⟩ : Shape).Idx → V :=
  fun x => Y (ix2 ⟨r + (x 0).val, by have := idx2_lt0 x; omega⟩ (x 1))

/-- `b` rows of a slot, from row `r`. -/
def sub3 {R C : ℕ} {V : Type} (b r : ℕ) (h : r + b ≤ R) (Y : (⟨3, ![1, R, C]⟩ : Shape).Idx → V) : (⟨3, ![1, b, C]⟩ : Shape).Idx → V :=
  fun x => Y (ix3 (x 0) ⟨r + (x 1).val, by have : (x 1).val < b := (x 1).isLt; omega⟩ (x 2))

/-- `b` columns from column `o`. -/
def cols {R C : ℕ} {V : Type} (b o : ℕ) (h : o + b ≤ C) (Y : (⟨3, ![1, R, C]⟩ : Shape).Idx → V) : (⟨3, ![1, R, b]⟩ : Shape).Idx → V :=
  fun x => Y (ix3 (x 0) (x 1) ⟨o + (x 2).val, by have : (x 2).val < b := (x 2).isLt; omega⟩)

theorem add_div_block {B o d : ℕ} (hB : 0 < B) (h : o % B + d < B) : (o + d) / B = o / B := by
  obtain ⟨q, r, hr, rfl⟩ : ∃ q r, r < B ∧ o = B * q + r := ⟨o / B, o % B, Nat.mod_lt _ hB, (Nat.div_add_mod o B).symm⟩
  rw [Nat.mul_add_mod, Nat.mod_eq_of_lt hr] at h
  rw [Nat.add_assoc, Nat.mul_add_div hB, Nat.mul_add_div hB, Nat.div_eq_of_lt h, Nat.div_eq_of_lt hr]

theorem add_mod_block {B o d : ℕ} (hB : 0 < B) (h : o % B + d < B) : (o + d) % B = o % B + d := by
  obtain ⟨q, r, hr, rfl⟩ : ∃ q r, r < B ∧ o = B * q + r := ⟨o / B, o % B, Nat.mod_lt _ hB, (Nat.div_add_mod o B).symm⟩
  rw [Nat.mul_add_mod, Nat.mod_eq_of_lt hr] at h
  rw [Nat.add_assoc, Nat.mul_add_mod, Nat.mul_add_mod, Nat.mod_eq_of_lt h, Nat.mod_eq_of_lt hr]

theorem ld_sub2 {n B C N o b : ℕ} {V : EltTy → Type} {e : EltTy} (h : N = n * B) (a : Fin n → (⟨2, ![B, C]⟩ : Shape).Idx → V e)
    (inb) (hlt : o / B < n) (hb : o % B + b ≤ B) :
    View.ld (Val := V) (gl n B h a) (Rect.unit (s := ⟨2, ![N, C]⟩) ![o, 0] ![b, C] inb) = sub2 b (o % B) hb (a ⟨o / B, hlt⟩) := by
  funext x
  have h1 : (x 0).val < b := (x 0).isLt
  have e0 : (((Rect.unit (s := ⟨2, ![N, C]⟩) ![o, 0] ![b, C] inb).idx x) 0).val = o + (x 0).val := Rect.idx_unit_val _ _ inb x 0
  have e1 : (((Rect.unit (s := ⟨2, ![N, C]⟩) ![o, 0] ![b, C] inb).idx x) 1).val = 0 + (x 1).val := Rect.idx_unit_val _ _ inb x 1
  rw [View.ld_apply]
  unfold gl sub2
  have hB : 0 < B := by omega
  have hd := add_div_block hB (o := o) (d := (x 0).val) (by omega)
  have hm := add_mod_block hB (o := o) (d := (x 0).val) (by omega)
  exact congrArg₂ (fun i y => a i y) (Fin.ext ((congrArg (· / B) e0).trans hd)) (congrArg₂ ix2 (Fin.ext ((congrArg (· % B) e0).trans hm)) (Fin.ext (e1.trans (Nat.zero_add _))))

theorem sub2_full {B C r : ℕ} {V : Type} (h : r + B ≤ B) (Y : (⟨2, ![B, C]⟩ : Shape).Idx → V) : sub2 B r h Y = Y := by
  obtain rfl : r = 0 := by omega
  funext x
  refine Eq.trans ?_ (congrArg Y (eq_ix2 x).symm)
  exact congrArg (fun z => Y (ix2 z (x 1))) (Fin.ext (Nat.zero_add _))

theorem put_gl {n B C N o : ℕ} {V : Type} (h : N = n * B) (a : Fin n → (⟨2, ![B, C]⟩ : Shape).Idx → V)
    (inb) (hlt : o / B < n) (ho : o % B = 0) (w : (⟨2, ![B, C]⟩ : Shape).Idx → V) :
    (Rect.unit (s := ⟨2, ![N, C]⟩) ![o, 0] ![B, C] inb).overlay (gl n B h a) w = gl n B h (upd a ⟨o / B, hlt⟩ w) := by
  funext x
  have hx := idx2_lt0 x
  have hB : 0 < B := by rcases B with _ | B <;> simp_all
  have ho' : o = B * (o / B) := by have := Nat.div_add_mod o B; omega
  by_cases hj : (x 0).val / B = o / B
  · have hxm := Nat.div_add_mod (x 0).val B
    have : x = (Rect.unit (s := ⟨2, ![N, C]⟩) ![o, 0] ![B, C] inb).emb (ix2 ⟨(x 0).val % B, Nat.mod_lt _ hB⟩ (x 1)) := by
      funext d
      match d with
      | ⟨0, _⟩ =>
        apply Fin.ext
        show (x 0).val = o + 1 * ((x 0).val % B)
        rw [hj] at hxm; omega
      | ⟨1, _⟩ =>
        apply Fin.ext
        show (x 1).val = 0 + 1 * (x 1).val
        omega
    refine (congrArg _ this).trans ((Rect.overlay_emb _ _ _ _).trans ?_)
    unfold gl
    rw [show (⟨(x 0).val / B, Nat.div_lt_of_lt_mul (hx.trans_eq (h.trans (Nat.mul_comm n B)))⟩ : Fin n) = ⟨o / B, hlt⟩ from Fin.ext hj, upd_self]
  · rw [Rect.overlay_of_not_mem]
    · unfold gl
      rw [upd_ne]
      exact fun hc => hj (congrArg Fin.val hc)
    · intro hm
      rw [Rect.mem_set_unit] at hm
      have h0 := hm 0
      have h1 : o ≤ (x 0).val := h0.1
      have h2 : (x 0).val < o + B := h0.2
      apply hj
      obtain ⟨d, hd⟩ : ∃ d, (x 0).val = o + d := ⟨(x 0).val - o, (Nat.add_sub_cancel' h1).symm⟩
      rw [hd] at h2
      rw [hd, add_div_block hB (by rw [ho, Nat.zero_add]; exact Nat.lt_of_add_lt_add_left h2)]

theorem ld_sub3 {n R C j r b : ℕ} {V : EltTy → Type} {e : EltTy} (a : Fin n → (⟨3, ![1, R, C]⟩ : Shape).Idx → V e)
    (inb) (hj : j < n) (hb : r + b ≤ R) :
    View.ld (Val := V) (gl3 a) (Rect.unit (s := ⟨3, ![n, R, C]⟩) ![j, r, 0] ![1, b, C] inb) = sub3 b r hb (a ⟨j, hj⟩) := by
  funext x
  have h1 : (x 0).val < 1 := (x 0).isLt
  have e0 : (((Rect.unit (s := ⟨3, ![n, R, C]⟩) ![j, r, 0] ![1, b, C] inb).idx x) 0).val = j + (x 0).val := Rect.idx_unit_val _ _ inb x 0
  have e1 : (((Rect.unit (s := ⟨3, ![n, R, C]⟩) ![j, r, 0] ![1, b, C] inb).idx x) 1).val = r + (x 1).val := Rect.idx_unit_val _ _ inb x 1
  have e2 : (((Rect.unit (s := ⟨3, ![n, R, C]⟩) ![j, r, 0] ![1, b, C] inb).idx x) 2).val = 0 + (x 2).val := Rect.idx_unit_val _ _ inb x 2
  rw [View.ld_apply]
  unfold gl3 sub3
  have hz : (0 : Fin 1) = x 0 := Fin.ext (by show 0 = (x 0).val; omega)
  refine congrArg₂ (fun i y => a i y) (Fin.ext (e0.trans (by show j + (x 0).val = j; omega))) ?_
  rw [← hz]
  exact congrArg₂ (ix3 0) (Fin.ext e1) (Fin.ext (e2.trans (Nat.zero_add _)))

theorem put_gl3 {n R C j : ℕ} {V : Type} (a : Fin n → (⟨3, ![1, R, C]⟩ : Shape).Idx → V)
    (inb) (hj : j < n) (w : (⟨3, ![1, R, C]⟩ : Shape).Idx → V) :
    (Rect.unit (s := ⟨3, ![n, R, C]⟩) ![j, 0, 0] ![1, R, C] inb).overlay (gl3 a) w = gl3 (upd a ⟨j, hj⟩ w) := by
  funext x
  by_cases hx : (x 0).val = j
  · have : x = (Rect.unit (s := ⟨3, ![n, R, C]⟩) ![j, 0, 0] ![1, R, C] inb).emb (ix3 0 (x 1) (x 2)) := by
      funext d
      match d with
      | ⟨0, _⟩ => exact Fin.ext (hx.trans (by show j = j + 1 * 0; omega))
      | ⟨1, _⟩ => exact Fin.ext (by show (x 1).val = 0 + 1 * (x 1).val; omega)
      | ⟨2, _⟩ => exact Fin.ext (by show (x 2).val = 0 + 1 * (x 2).val; omega)
    refine (congrArg _ this).trans ((Rect.overlay_emb _ _ _ _).trans ?_)
    unfold gl3
    rw [show x 0 = (⟨j, hj⟩ : Fin n) from Fin.ext hx, upd_self]
  · rw [Rect.overlay_of_not_mem]
    · exact (congrFun (upd_ne a (i := x 0) w fun hc => hx (congrArg Fin.val hc)) (ix3 0 (x 1) (x 2))).symm
    · intro hm
      rw [Rect.mem_set_unit] at hm
      have h0 := hm 0
      have h1 : j ≤ (x 0).val := h0.1
      have h2 : (x 0).val < j + 1 := h0.2
      omega

theorem ld_cols {R C o b : ℕ} {V : EltTy → Type} {e : EltTy} {R' : ℕ} (X : (⟨3, ![1, R, C]⟩ : Shape).Idx → V e)
    (inb) (hR : 0 + R' ≤ R) (ho : o + b ≤ C) :
    View.ld (Val := V) X (Rect.unit (s := ⟨3, ![1, R, C]⟩) ![0, 0, o] ![1, R', b] inb) = sub3 R' 0 hR (cols b o ho X) := by
  funext x
  refine congrArg X (funext fun d => Fin.ext ?_)
  match d with
  | ⟨0, _⟩ => show 0 + 1 * (x 0).val = (x 0).val; omega
  | ⟨1, _⟩ => show 0 + 1 * (x 1).val = 0 + (x 1).val; omega
  | ⟨2, _⟩ => show o + 1 * (x 2).val = o + (x 2).val; omega

theorem ld_rows {R C r b : ℕ} {V : EltTy → Type} {e : EltTy} (X : (⟨3, ![1, R, C]⟩ : Shape).Idx → V e)
    (inb) (hb : r + b ≤ R) :
    View.ld (Val := V) X (Rect.unit (s := ⟨3, ![1, R, C]⟩) ![0, r, 0] ![1, b, C] inb) = sub3 b r hb X := by
  funext x
  refine congrArg X (funext fun d => Fin.ext ?_)
  match d with
  | ⟨0, _⟩ => show 0 + 1 * (x 0).val = (x 0).val; omega
  | ⟨1, _⟩ => show r + 1 * (x 1).val = r + (x 1).val; omega
  | ⟨2, _⟩ => show 0 + 1 * (x 2).val = (x 2).val; omega

theorem sub3_full {R C r : ℕ} {V : Type} (h : r + R ≤ R) (Y : (⟨3, ![1, R, C]⟩ : Shape).Idx → V) : sub3 R r h Y = Y := by
  obtain rfl : r = 0 := by omega
  funext x
  refine Eq.trans ?_ (congrArg Y (eq_ix3 x).symm)
  exact congrArg (fun z => Y (ix3 (x 0) z (x 2))) (Fin.ext (Nat.zero_add _))

/-! ## The body's memrefs -/

/-- The memrefs the body is called with. -/
structure Bufs where
  q : Memref sig .tc .vmem S1x512x1024 .bf16
  hq : q.IsWhole
  k : Memref sig .tc .vmem S1x2048x1024 .bf16
  hk : k.IsWhole
  vt : Memref sig .tc .vmem S1x640x2048 .bf16
  hvt : vt.IsWhole
  gc : Memref sig .tc .vmem S1x512x512 .bf16
  hgc : gc.IsWhole
  o : Memref sig .tc .vmem S1x512x512 .bf16
  ho : o.IsWhole
  m : Memref sig .tc .vmem S8x512 .f32
  hm : m.IsWhole
  acc : Memref sig .tc .vmem S640x512 .f32
  hacc : acc.IsWhole
  st : Memref sig .tc .vmem S3x2048x512 .f32
  hst : st.IsWhole
  p : Memref sig .tc .vmem S3x2048x512 .bf16
  hp : p.IsWhole
  tmp : Memref sig .tc .vmem S640x512 .f32
  htmp : tmp.IsWhole
  flag : Memref sig .tc .smem S1 .i32
  hflag : flag.IsWhole

variable (F) in
/-- What the memrefs hold; those with one block per head (or slot) block by block. -/
@[ext] structure St where
  q : Vec F S1x512x1024 .bf16
  k : Vec F S1x2048x1024 .bf16
  vt : Vec F S1x640x2048 .bf16
  gc : Vec F S1x512x512 .bf16
  o : Vec F S1x512x512 .bf16
  m : Fin 8 → Vec F S1x512 .f32
  acc : Fin 8 → Vec F S80x512 .f32
  st : Fin 3 → Vec F S1x2048x512 .f32
  p : Vec F S3x2048x512 .bf16
  tmp : Fin 8 → Vec F S80x512 .f32
  flag : Vec F S1 .i32

variable (A : Bufs) (c : Dev nD)

/-- The core's thread owns every memref at the contents `σ`. -/
def own (σ : St F) : sProp 𝕄 :=
  iprop(owns (c : Thread nD τ) A.q fullShare σ.q ∗ owns (c : Thread nD τ) A.k fullShare σ.k
    ∗ owns (c : Thread nD τ) A.vt fullShare σ.vt ∗ owns (c : Thread nD τ) A.gc fullShare σ.gc
    ∗ owns (c : Thread nD τ) A.o fullShare σ.o ∗ owns (c : Thread nD τ) A.m fullShare (gl 8 1 rfl σ.m)
    ∗ owns (c : Thread nD τ) A.acc fullShare (gl 8 80 rfl σ.acc) ∗ owns (c : Thread nD τ) A.st fullShare (gl3 σ.st)
    ∗ owns (c : Thread nD τ) A.p fullShare σ.p ∗ owns (c : Thread nD τ) A.tmp fullShare (gl 8 80 rfl σ.tmp)
    ∗ owns (c : Thread nD τ) A.flag fullShare σ.flag)

/-- From the contents `σ`, the program ends at a result and contents satisfying `Q`. -/
structure W {α : Type} (σ : St F) (p : Prog (TpuEff nD τ sig (Elt F) Λ₀ .tc) α) (Q : α → St F → Prop) : Prop where
  run : ∀ K : α → sProp 𝕄, iprop(own A c σ ∗ (∀ a σ', ⌜Q a σ'⌝ -∗ own A c σ' -∗ K a))
    ⊢ wp frame (wpE (defs₀ (F := F)) Variants.none (c : Thread nD τ) none) Set.univ p K

variable {A c}

theorem W.mono {α : Type} {σ : St F} {p : Prog (TpuEff nD τ sig (Elt F) Λ₀ .tc) α} {Q Q' : α → St F → Prop}
    (h : W A c σ p Q) (hQ : ∀ a σ', Q a σ' → Q' a σ') : W A c σ p Q' := by
  refine ⟨fun K => ?_⟩
  refine .trans ?_ (h.run K)
  iintro ⟨H, Hk⟩
  isplitl [H]; · iexact H
  iintro %a %σ' %hq H
  iapply Hk $$ %a %σ' %(hQ a σ' hq) H

theorem W.ret {α : Type} {σ : St F} {a : α} {Q : α → St F → Prop} (h : Q a σ) : W A c σ (.ret a) Q := by
  refine ⟨fun K => ?_⟩
  rw [wp_ret]
  refine .trans ?_ BI.fupd_intro
  iintro ⟨H, Hk⟩
  iapply Hk $$ %a %σ %h H

theorem W.bind {α β : Type} {σ : St F} {p : Prog (TpuEff nD τ sig (Elt F) Λ₀ .tc) α}
    {k : α → Prog (TpuEff nD τ sig (Elt F) Λ₀ .tc) β} {Q : β → St F → Prop}
    (h : W A c σ p fun a σ' => W A c σ' (k a) Q) : W A c σ (p >>= k) Q := by
  refine ⟨fun K => ?_⟩
  rw [wp_bind]
  refine .trans ?_ (h.run _)
  iintro ⟨H, Hk⟩
  isplitl [H]; · iexact H
  iintro %a %σ' %hq H
  iapply (hq.run K)
  isplitl [H]; · iexact H
  iexact Hk

/-- What a store of `w` through the rectangle `r` leaves where `X` was. -/
abbrev put {s : Shape} {α : Type} (X : s.Idx → α) (r : Rect s) (w : r.shape.Idx → α) : s.Idx → α := r.overlay X w

section Ops

variable {s : Shape} {e : EltTy} {cs : CoreSpace}

/-- A memref's contents after a store through a rectangle of it. -/
theorem read_write_slice (m : Memref sig .tc cs s e) (r : Rect s) (f : m.view.ty.Contents (Elt F)) (w : r.shape.Idx → Elt F e) :
    m.view.read (Elt F) ((m.access r).write (Elt F) f w Finset.univ) = put (m.view.read (Elt F) f) r w := by
  funext y
  by_cases hy : y ∈ r.set
  · rw [← Rect.map_emb_univ] at hy
    obtain ⟨x, -, rfl⟩ := Finset.mem_map.mp hy
    rw [put, Rect.overlay_emb]
    exact congrFun (View.read_write_univ (v := m.access r) f w) x
  · rw [put, Rect.overlay_of_not_mem _ _ _ hy]
    exact View.read_slice_write_of_not_mem _ _ _ _ (by rw [Rect.map_emb_univ]; exact hy)

/-- A part of `own` that is one memref, and how to put it back. -/
def Splits (m : Memref sig .tc cs s e) (get : St F → Vec F s e) (set : St F → Vec F s e → St F) : Prop :=
  ∀ σ : St F, (own A c σ : sProp 𝕄)
    ⊢ iprop(owns (c : Thread nD τ) m fullShare (get σ) ∗ (∀ X, owns (c : Thread nD τ) m fullShare X -∗ own A c (set σ X)))

theorem W.load_of {m : Memref sig .tc cs s e} {get : St F → Vec F s e} {set : St F → Vec F s e → St F}
    (hs : Splits (A := A) (c := c) m get set) (hg : ∀ σ, set σ (get σ) = σ) {α : Type} {σ : St F} {r : Rect s}
    {hl : m.view.LoadsAt r.toLoadRect} {k : (r.shape.Idx → Elt F e) → Prog (TpuEff nD τ sig (Elt F) Λ₀ .tc) α} {Q : α → St F → Prop}
    (h : W A c σ (k (View.ld (get σ) r)) Q) : W A c σ (.op (.load m r.toLoadRect hl) k) Q := by
  refine ⟨fun K => ?_⟩
  iintro ⟨H, Hk⟩
  ihave H := (hs σ) $$ H
  icases H with ⟨H, Hb⟩
  ihave H' := (show owns (c : Thread nD τ) m fullShare (get σ) ⊢ iprop(∃ g, ⌜m.view.read (Elt F) g = get σ⌝ ∗ m.view.loc (c : Thread nD τ) ↦[m.view.set]{fullShare} g) from .rfl) $$ H
  icases H' with ⟨%g, %hg', H⟩
  have hsub : (m.access r).set ⊆ m.view.set := m.view.set_slice_subset r
  iapply (wp_load_rect (defs := defs₀ (F := F)) Variants.none (c : Thread nD τ) none Set.univ (m := m) (r := r) (hl := hl) (k := k) (Q := K) (q := fullShare) (f := g) hsub) $$ H
  iintro H
  have hv : (m.access r).read (Elt F) g = View.ld (get σ) r := by rw [← hg']; rfl
  rw [hv]
  iapply (h.run K)
  isplitl [H Hb]
  · have e : (own A c σ : sProp 𝕄) = own A c (set σ (get σ)) := by rw [hg]
    rw [e]
    iapply Hb
    unfold owns
    iexists g
    isplitr; · ipureintro; exact hg'
    iexact H
  iexact Hk

theorem W.store_of {m : Memref sig .tc cs s e} {get : St F → Vec F s e} {set : St F → Vec F s e → St F}
    (hs : Splits (A := A) (c := c) m get set) {α : Type} {σ : St F} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {Q : α → St F → Prop}
    (h : W A c (set σ (put (get σ) r w)) (k ⟨⟩) Q) : W A c σ (.op (.store m r w Finset.univ hx hm) k) Q := by
  refine ⟨fun K => ?_⟩
  iintro ⟨H, Hk⟩
  ihave H := (hs σ) $$ H
  icases H with ⟨H, Hb⟩
  ihave H' := (show owns (c : Thread nD τ) m fullShare (get σ) ⊢ iprop(∃ g, ⌜m.view.read (Elt F) g = get σ⌝ ∗ m.view.loc (c : Thread nD τ) ↦[m.view.set]{fullShare} g) from .rfl) $$ H
  icases H' with ⟨%g, %hg', H⟩
  have hsub : (m.access r).setOn Finset.univ ⊆ m.view.set := m.view.set_slice_subset r
  iapply (wp_store (defs := defs₀ (F := F)) Variants.none (c : Thread nD τ) none Set.univ (m := m) (r := r) (w := w) (hx := hx) (hm := hm) (k := k) (Q := K) (f := g) hsub) $$ H
  iintro H
  iapply (h.run K)
  isplitl [H Hb]
  · iapply Hb
    unfold owns
    iexists _
    isplitr; swap; · iexact H
    ipureintro; rw [read_write_slice, hg']
  iexact Hk

end Ops

theorem splits_q : Splits (F := F) (A := A) (c := c) A.q St.q (fun σ X => { σ with q := X }) := fun σ => by
  unfold own; iintro ⟨H0, H1, H2, H3, H4, H5, H6, H7, H8, H9, H10⟩; iframe; iintro %X H; iframe
theorem splits_k : Splits (F := F) (A := A) (c := c) A.k St.k (fun σ X => { σ with k := X }) := fun σ => by
  unfold own; iintro ⟨H0, H1, H2, H3, H4, H5, H6, H7, H8, H9, H10⟩; iframe; iintro %X H; iframe
theorem splits_vt : Splits (F := F) (A := A) (c := c) A.vt St.vt (fun σ X => { σ with vt := X }) := fun σ => by
  unfold own; iintro ⟨H0, H1, H2, H3, H4, H5, H6, H7, H8, H9, H10⟩; iframe; iintro %X H; iframe
theorem splits_gc : Splits (F := F) (A := A) (c := c) A.gc St.gc (fun σ X => { σ with gc := X }) := fun σ => by
  unfold own; iintro ⟨H0, H1, H2, H3, H4, H5, H6, H7, H8, H9, H10⟩; iframe; iintro %X H; iframe
theorem splits_o : Splits (F := F) (A := A) (c := c) A.o St.o (fun σ X => { σ with o := X }) := fun σ => by
  unfold own; iintro ⟨H0, H1, H2, H3, H4, H5, H6, H7, H8, H9, H10⟩; iframe; iintro %X H; iframe
theorem splits_m : Splits (F := F) (A := A) (c := c) A.m (fun σ => gl 8 1 rfl σ.m) (fun σ X => { σ with m := ungl 8 1 rfl X }) := fun σ => by
  unfold own; iintro ⟨H0, H1, H2, H3, H4, H5, H6, H7, H8, H9, H10⟩; iframe; iintro %X H; simp only [gl_ungl]; iframe
theorem splits_acc : Splits (F := F) (A := A) (c := c) A.acc (fun σ => gl 8 80 rfl σ.acc) (fun σ X => { σ with acc := ungl 8 80 rfl X }) := fun σ => by
  unfold own; iintro ⟨H0, H1, H2, H3, H4, H5, H6, H7, H8, H9, H10⟩; iframe; iintro %X H; simp only [gl_ungl]; iframe
theorem splits_st : Splits (F := F) (A := A) (c := c) A.st (fun σ => gl3 σ.st) (fun σ X => { σ with st := ungl3 X }) := fun σ => by
  unfold own; iintro ⟨H0, H1, H2, H3, H4, H5, H6, H7, H8, H9, H10⟩; iframe; iintro %X H; simp only [gl3_ungl3]; iframe
theorem splits_p : Splits (F := F) (A := A) (c := c) A.p St.p (fun σ X => { σ with p := X }) := fun σ => by
  unfold own; iintro ⟨H0, H1, H2, H3, H4, H5, H6, H7, H8, H9, H10⟩; iframe; iintro %X H; iframe
theorem splits_tmp : Splits (F := F) (A := A) (c := c) A.tmp (fun σ => gl 8 80 rfl σ.tmp) (fun σ X => { σ with tmp := ungl 8 80 rfl X }) := fun σ => by
  unfold own; iintro ⟨H0, H1, H2, H3, H4, H5, H6, H7, H8, H9, H10⟩; iframe; iintro %X H; simp only [gl_ungl]; iframe
theorem splits_flag : Splits (F := F) (A := A) (c := c) A.flag St.flag (fun σ X => { σ with flag := X }) := fun σ => by
  unfold own; iintro ⟨H0, H1, H2, H3, H4, H5, H6, H7, H8, H9, H10⟩; iframe; iintro %X H; iframe

end Cert.Mla
-- ==== Proof.Rules.lean ====
/-
  One rule per kind of load and store of the body: what the load returns, or what the store leaves, in the terms of `St`.
-/
module

public import proofs.«01_k».proof.Proof.Run

@[expose] public section

noncomputable section

namespace Cert.Mla

open Cert.KernelIdeal Cert.KernelIdeal.Gen
open Idealize.ShloMosaic Idealize.ShloMosaic.TcCoe
open Idealize.SL Idealize.SL.RA Idealize.SL.BI Idealize.SL.Sem
open Idealize.ShloMosaic.ValueIdx

variable (F : FTy → Type) in
/-- A program of the TensorCore. -/
abbrev Pr (α : Type) := Prog (TpuEff nD τ sig (Elt F) Λ₀ .tc) α

variable {F : FTy → Type} [FloatOps F] [Named F] {A : Bufs} {c : Dev nD}

section General

variable {s : Shape} {e : EltTy} {cs : CoreSpace}

theorem W.load_val {m : Memref sig .tc cs s e} {get : St F → Vec F s e} {set : St F → Vec F s e → St F}
    (hs : Splits (A := A) (c := c) m get set) (hg : ∀ σ, set σ (get σ) = σ) {α : Type} {σ : St F} {r : Rect s}
    {hl : m.view.LoadsAt r.toLoadRect} {k : (r.shape.Idx → Elt F e) → Prog (TpuEff nD τ sig (Elt F) Λ₀ .tc) α} {Q : α → St F → Prop}
    {v : r.shape.Idx → Elt F e} (hv : View.ld (get σ) r = v)
    (h : W A c σ (k v) Q) : W A c σ (.op (.load m r.toLoadRect hl) k) Q :=
  W.load_of hs hg (by rw [hv]; exact h)

theorem W.store_val {m : Memref sig .tc cs s e} {get : St F → Vec F s e} {set : St F → Vec F s e → St F}
    (hs : Splits (A := A) (c := c) m get set) {α : Type} {σ σ' : St F} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {Q : α → St F → Prop}
    (hv : set σ (put (get σ) r w) = σ') (h : W A c σ' (k ⟨⟩) Q) : W A c σ (.op (.store m r w Finset.univ hx hm) k) Q :=
  W.store_of hs (by rw [hv]; exact h)

end General

variable {q : Vec F S1x512x1024 .bf16} {kk : Vec F S1x2048x1024 .bf16} {vt : Vec F S1x640x2048 .bf16} {gc o : Vec F S1x512x512 .bf16}
  {m : Fin 8 → Vec F S1x512 .f32} {acc tmp : Fin 8 → Vec F S80x512 .f32} {st : Fin 3 → Vec F S1x2048x512 .f32}
  {p : Vec F S3x2048x512 .bf16} {fl : Vec F S1 .i32} {α : Type} {Q : α → St F → Prop}

theorem ld_cols' {R C a b : ℕ} {V : EltTy → Type} {e : EltTy} (X : (⟨3, ![1, R, C]⟩ : Shape).Idx → V e) (inb) (ho : a + b ≤ C) :
    View.ld (Val := V) X (Rect.unit (s := ⟨3, ![1, R, C]⟩) ![0, 0, a] ![1, R, b] inb) = cols b a ho X :=
  (ld_cols X inb (by omega) ho).trans (sub3_full _ _)

theorem W.ld_q {a : ℕ} {inb} {hl} {k : Vec F S1x512x128 .bf16 → Pr F α} (ho : a + 128 ≤ 1024)
    (h : W A c ⟨q, kk, vt, gc, o, m, acc, st, p, tmp, fl⟩ (k (cols 128 a ho q)) Q) :
    W A c ⟨q, kk, vt, gc, o, m, acc, st, p, tmp, fl⟩
      (.op (.load A.q (Rect.unit (s := S1x512x1024) ![0, 0, a] S1x512x128.size inb).toLoadRect hl) k) Q :=
  W.load_val splits_q (fun _ => rfl) (ld_cols' q inb ho) h

theorem W.ld_k {a : ℕ} {inb} {hl} {k : Vec F S1x2048x128 .bf16 → Pr F α} (ho : a + 128 ≤ 1024)
    (h : W A c ⟨q, kk, vt, gc, o, m, acc, st, p, tmp, fl⟩ (k (cols 128 a ho kk)) Q) :
    W A c ⟨q, kk, vt, gc, o, m, acc, st, p, tmp, fl⟩
      (.op (.load A.k (Rect.unit (s := S1x2048x1024) ![0, 0, a] S1x2048x128.size inb).toLoadRect hl) k) Q :=
  W.load_val splits_k (fun _ => rfl) (ld_cols' kk inb ho) h

theorem W.ld_k16 {a : ℕ} {inb} {hl} {k : Vec F S1x16x128 .bf16 → Pr F α} (ho : a + 128 ≤ 1024)
    (h : W A c ⟨q, kk, vt, gc, o, m, acc, st, p, tmp, fl⟩ (k (sub3 16 0 (by decide) (cols 128 a ho kk))) Q) :
    W A c ⟨q, kk, vt, gc, o, m, acc, st, p, tmp, fl⟩
      (.op (.load A.k (Rect.unit (s := S1x2048x1024) ![0, 0, a] S1x16x128.size inb).toLoadRect hl) k) Q :=
  W.load_val splits_k (fun _ => rfl) (ld_cols kk inb (by decide) ho) h

theorem W.ld_vt {a : ℕ} {inb} {hl} {k : Vec F S1x80x2048 .bf16 → Pr F α} (ho : a + 80 ≤ 640)
    (h : W A c ⟨q, kk, vt, gc, o, m, acc, st, p, tmp, fl⟩ (k (sub3 80 a ho vt)) Q) :
    W A c ⟨q, kk, vt, gc, o, m, acc, st, p, tmp, fl⟩
      (.op (.load A.vt (Rect.unit (s := S1x640x2048) ![0, a, 0] S1x80x2048.size inb).toLoadRect hl) k) Q :=
  W.load_val splits_vt (fun _ => rfl) (ld_rows vt inb ho) h

theorem W.ld_gc {inb} {hl} {k : Vec F S1x512x512 .bf16 → Pr F α}
    (h : W A c ⟨q, kk, vt, gc, o, m, acc, st, p, tmp, fl⟩ (k gc) Q) :
    W A c ⟨q, kk, vt, gc, o, m, acc, st, p, tmp, fl⟩
      (.op (.load A.gc (Rect.unit (s := S1x512x512) ![0, 0, 0] S1x512x512.size inb).toLoadRect hl) k) Q :=
  W.load_val splits_gc (fun _ => rfl) ((ld_rows gc inb (by decide)).trans (sub3_full _ _)) h

theorem W.ld_o {inb} {hl} {k : Vec F S1x512x512 .bf16 → Pr F α}
    (h : W A c ⟨q, kk, vt, gc, o, m, acc, st, p, tmp, fl⟩ (k o) Q) :
    W A c ⟨q, kk, vt, gc, o, m, acc, st, p, tmp, fl⟩
      (.op (.load A.o (Rect.unit (s := S1x512x512) ![0, 0, 0] S1x512x512.size inb).toLoadRect hl) k) Q :=
  W.load_val splits_o (fun _ => rfl) ((ld_rows o inb (by decide)).trans (sub3_full _ _)) h

theorem ungl3_one {R C : ℕ} {V : Type} (X : (⟨3, ![1, R, C]⟩ : Shape).Idx → V) : gl3 (fun _ : Fin 1 => X) = X :=
  funext fun x => (congrArg (fun z => X (ix3 z (x 1) (x 2))) (Fin.fin_one_eq_zero (x 0)).symm).trans (congrArg X (eq_ix3 x).symm)

theorem put_whole3 {R C : ℕ} {V : Type} (X w : (⟨3, ![1, R, C]⟩ : Shape).Idx → V) (inb) :
    put X (Rect.unit (s := ⟨3, ![1, R, C]⟩) ![0, 0, 0] ![1, R, C] inb) w = w := by
  have := put_gl3 (fun _ : Fin 1 => X) inb (j := 0) (by decide) w
  rw [ungl3_one] at this
  refine this.trans ?_
  rw [show upd (fun _ : Fin 1 => X) ⟨0, by decide⟩ w = fun _ => w from funext fun i => by rw [Fin.fin_one_eq_zero i]; exact upd_self _ _ _]
  exact ungl3_one w

theorem W.st_o {inb} {hx} {hm} {w : Vec F S1x512x512 .bf16} {k : PUnit → Pr F α}
    (h : W A c ⟨q, kk, vt, gc, w, m, acc, st, p, tmp, fl⟩ (k ⟨⟩) Q) :
    W A c ⟨q, kk, vt, gc, o, m, acc, st, p, tmp, fl⟩
      (.op (.store A.o (Rect.unit (s := S1x512x512) ![0, 0, 0] S1x512x512.size inb) w Finset.univ hx hm) k) Q :=
  W.store_val splits_o (congrArg (fun X => St.mk q kk vt gc X m acc st p tmp fl) (put_whole3 o w inb)) h

theorem get_m (σ : St F) : { σ with m := ungl 8 1 rfl (gl 8 1 rfl σ.m) } = σ := by rw [ungl_gl]
theorem get_acc (σ : St F) : { σ with acc := ungl 8 80 rfl (gl 8 80 rfl σ.acc) } = σ := by rw [ungl_gl]
theorem get_tmp (σ : St F) : { σ with tmp := ungl 8 80 rfl (gl 8 80 rfl σ.tmp) } = σ := by rw [ungl_gl]
theorem get_st (σ : St F) : { σ with st := ungl3 (gl3 σ.st) } = σ := by rw [ungl3_gl3]

theorem ld_row {n B C N a : ℕ} {V : EltTy → Type} {e : EltTy} (h : N = n * B) (x : Fin n → (⟨2, ![B, C]⟩ : Shape).Idx → V e)
    (inb) (hlt : a / B < n) (h0 : a % B = 0) :
    View.ld (Val := V) (gl n B h x) (Rect.unit (s := ⟨2, ![N, C]⟩) ![a, 0] ![B, C] inb) = x ⟨a / B, hlt⟩ :=
  (ld_sub2 h x inb hlt (by omega)).trans (sub2_full _ _)

theorem ld_whole2 {N C : ℕ} {V : EltTy → Type} {e : EltTy} (X : (⟨2, ![N, C]⟩ : Shape).Idx → V e) (inb) :
    View.ld (Val := V) X (Rect.unit (s := ⟨2, ![N, C]⟩) ![0, 0] ![N, C] inb) = X := by
  funext x
  refine congrArg X (funext fun d => Fin.ext ?_)
  match d with
  | ⟨0, _⟩ => show 0 + 1 * (x 0).val = (x 0).val; omega
  | ⟨1, _⟩ => show 0 + 1 * (x 1).val = (x 1).val; omega

theorem put_whole2 {N C : ℕ} {V : Type} (X w : (⟨2, ![N, C]⟩ : Shape).Idx → V) (inb) :
    put X (Rect.unit (s := ⟨2, ![N, C]⟩) ![0, 0] ![N, C] inb) w = w := by
  funext x
  have : x = (Rect.unit (s := ⟨2, ![N, C]⟩) ![0, 0] ![N, C] inb).emb x := by
    funext d
    match d with
    | ⟨0, _⟩ => exact Fin.ext (by show (x 0).val = 0 + 1 * (x 0).val; omega)
    | ⟨1, _⟩ => exact Fin.ext (by show (x 1).val = 0 + 1 * (x 1).val; omega)
  exact (congrArg _ this).trans (Rect.overlay_emb _ _ _ _)

theorem W.ld_m {a : ℕ} {inb} {hl} {k : Vec F S1x512 .f32 → Pr F α} (hlt : a / 1 < 8) (h0 : a % 1 = 0)
    (h : W A c ⟨q, kk, vt, gc, o, m, acc, st, p, tmp, fl⟩ (k (m ⟨a / 1, hlt⟩)) Q) :
    W A c ⟨q, kk, vt, gc, o, m, acc, st, p, tmp, fl⟩
      (.op (.load A.m (Rect.unit (s := S8x512) ![a, 0] S1x512.size inb).toLoadRect hl) k) Q :=
  W.load_val splits_m get_m (ld_row rfl m inb hlt h0) h

theorem W.ld_m_whole {inb} {hl} {k : Vec F S8x512 .f32 → Pr F α}
    (h : W A c ⟨q, kk, vt, gc, o, m, acc, st, p, tmp, fl⟩ (k (gl 8 1 rfl m)) Q) :
    W A c ⟨q, kk, vt, gc, o, m, acc, st, p, tmp, fl⟩
      (.op (.load A.m (Rect.unit (s := S8x512) ![0, 0] S8x512.size inb).toLoadRect hl) k) Q :=
  W.load_val splits_m get_m (ld_whole2 _ inb) h

theorem W.st_m {a : ℕ} {inb} {hx} {hm} {w : Vec F S1x512 .f32} {k : PUnit → Pr F α} (hlt : a / 1 < 8) (h0 : a % 1 = 0)
    (h : W A c ⟨q, kk, vt, gc, o, upd m ⟨a / 1, hlt⟩ w, acc, st, p, tmp, fl⟩ (k ⟨⟩) Q) :
    W A c ⟨q, kk, vt, gc, o, m, acc, st, p, tmp, fl⟩
      (.op (.store A.m (Rect.unit (s := S8x512) ![a, 0] S1x512.size inb) w Finset.univ hx hm) k) Q :=
  W.store_val splits_m (congrArg (fun X => St.mk q kk vt gc o X acc st p tmp fl) ((congrArg (ungl 8 1 rfl) (put_gl rfl m inb hlt h0 w)).trans (ungl_gl rfl _))) h

theorem W.st_m_whole {inb} {hx} {hm} {w : Vec F S8x512 .f32} {k : PUnit → Pr F α}
    (h : W A c ⟨q, kk, vt, gc, o, ungl 8 1 rfl w, acc, st, p, tmp, fl⟩ (k ⟨⟩) Q) :
    W A c ⟨q, kk, vt, gc, o, m, acc, st, p, tmp, fl⟩
      (.op (.store A.m (Rect.unit (s := S8x512) ![0, 0] S8x512.size inb) w Finset.univ hx hm) k) Q :=
  W.store_val splits_m (congrArg (fun X => St.mk q kk vt gc o X acc st p tmp fl) (congrArg (ungl 8 1 rfl) (put_whole2 _ w inb))) h

theorem W.ld_acc {a : ℕ} {inb} {hl} {k : Vec F S80x512 .f32 → Pr F α} (hlt : a / 80 < 8) (h0 : a % 80 = 0)
    (h : W A c ⟨q, kk, vt, gc, o, m, acc, st, p, tmp, fl⟩ (k (acc ⟨a / 80, hlt⟩)) Q) :
    W A c ⟨q, kk, vt, gc, o, m, acc, st, p, tmp, fl⟩
      (.op (.load A.acc (Rect.unit (s := S640x512) ![a, 0] S80x512.size inb).toLoadRect hl) k) Q :=
  W.load_val splits_acc get_acc (ld_row rfl acc inb hlt h0) h

theorem W.ld_acc64 {a : ℕ} {inb} {hl} {k : Vec F S64x512 .f32 → Pr F α} (hlt : a / 80 < 8) (hb : a % 80 + 64 ≤ 80)
    (h : W A c ⟨q, kk, vt, gc, o, m, acc, st, p, tmp, fl⟩ (k (sub2 64 (a % 80) hb (acc ⟨a / 80, hlt⟩))) Q) :
    W A c ⟨q, kk, vt, gc, o, m, acc, st, p, tmp, fl⟩
      (.op (.load A.acc (Rect.unit (s := S640x512) ![a, 0] S64x512.size inb).toLoadRect hl) k) Q :=
  W.load_val splits_acc get_acc (ld_sub2 rfl acc inb hlt hb) h

theorem W.ld_acc1 {a : ℕ} {inb} {hl} {k : Vec F S1x512 .f32 → Pr F α} (hlt : a / 80 < 8) (hb : a % 80 + 1 ≤ 80)
    (h : W A c ⟨q, kk, vt, gc, o, m, acc, st, p, tmp, fl⟩ (k (sub2 1 (a % 80) hb (acc ⟨a / 80, hlt⟩))) Q) :
    W A c ⟨q, kk, vt, gc, o, m, acc, st, p, tmp, fl⟩
      (.op (.load A.acc (Rect.unit (s := S640x512) ![a, 0] S1x512.size inb).toLoadRect hl) k) Q :=
  W.load_val splits_acc get_acc (ld_sub2 rfl acc inb hlt hb) h

theorem W.ld_acc_whole {inb} {hl} {k : Vec F S640x512 .f32 → Pr F α}
    (h : W A c ⟨q, kk, vt, gc, o, m, acc, st, p, tmp, fl⟩ (k (gl 8 80 rfl acc)) Q) :
    W A c ⟨q, kk, vt, gc, o, m, acc, st, p, tmp, fl⟩
      (.op (.load A.acc (Rect.unit (s := S640x512) ![0, 0] S640x512.size inb).toLoadRect hl) k) Q :=
  W.load_val splits_acc get_acc (ld_whole2 _ inb) h

theorem W.st_acc {a : ℕ} {inb} {hx} {hm} {w : Vec F S80x512 .f32} {k : PUnit → Pr F α} (hlt : a / 80 < 8) (h0 : a % 80 = 0)
    (h : W A c ⟨q, kk, vt, gc, o, m, upd acc ⟨a / 80, hlt⟩ w, st, p, tmp, fl⟩ (k ⟨⟩) Q) :
    W A c ⟨q, kk, vt, gc, o, m, acc, st, p, tmp, fl⟩
      (.op (.store A.acc (Rect.unit (s := S640x512) ![a, 0] S80x512.size inb) w Finset.univ hx hm) k) Q :=
  W.store_val splits_acc (congrArg (fun X => St.mk q kk vt gc o m X st p tmp fl) ((congrArg (ungl 8 80 rfl) (put_gl rfl acc inb hlt h0 w)).trans (ungl_gl rfl _))) h

theorem W.st_acc_whole {inb} {hx} {hm} {w : Vec F S640x512 .f32} {k : PUnit → Pr F α}
    (h : W A c ⟨q, kk, vt, gc, o, m, ungl 8 80 rfl w, st, p, tmp, fl⟩ (k ⟨⟩) Q) :
    W A c ⟨q, kk, vt, gc, o, m, acc, st, p, tmp, fl⟩
      (.op (.store A.acc (Rect.unit (s := S640x512) ![0, 0] S640x512.size inb) w Finset.univ hx hm) k) Q :=
  W.store_val splits_acc (congrArg (fun X => St.mk q kk vt gc o m X st p tmp fl) (congrArg (ungl 8 80 rfl) (put_whole2 _ w inb))) h

theorem W.ld_tmp {a : ℕ} {inb} {hl} {k : Vec F S80x512 .f32 → Pr F α} (hlt : a / 80 < 8) (h0 : a % 80 = 0)
    (h : W A c ⟨q, kk, vt, gc, o, m, acc, st, p, tmp, fl⟩ (k (tmp ⟨a / 80, hlt⟩)) Q) :
    W A c ⟨q, kk, vt, gc, o, m, acc, st, p, tmp, fl⟩
      (.op (.load A.tmp (Rect.unit (s := S640x512) ![a, 0] S80x512.size inb).toLoadRect hl) k) Q :=
  W.load_val splits_tmp get_tmp (ld_row rfl tmp inb hlt h0) h

theorem W.ld_tmp1 {a : ℕ} {inb} {hl} {k : Vec F S1x512 .f32 → Pr F α} (hlt : a / 80 < 8) (hb : a % 80 + 1 ≤ 80)
    (h : W A c ⟨q, kk, vt, gc, o, m, acc, st, p, tmp, fl⟩ (k (sub2 1 (a % 80) hb (tmp ⟨a / 80, hlt⟩))) Q) :
    W A c ⟨q, kk, vt, gc, o, m, acc, st, p, tmp, fl⟩
      (.op (.load A.tmp (Rect.unit (s := S640x512) ![a, 0] S1x512.size inb).toLoadRect hl) k) Q :=
  W.load_val splits_tmp get_tmp (ld_sub2 rfl tmp inb hlt hb) h

theorem W.ld_tmp_whole {inb} {hl} {k : Vec F S640x512 .f32 → Pr F α}
    (h : W A c ⟨q, kk, vt, gc, o, m, acc, st, p, tmp, fl⟩ (k (gl 8 80 rfl tmp)) Q) :
    W A c ⟨q, kk, vt, gc, o, m, acc, st, p, tmp, fl⟩
      (.op (.load A.tmp (Rect.unit (s := S640x512) ![0, 0] S640x512.size inb).toLoadRect hl) k) Q :=
  W.load_val splits_tmp get_tmp (ld_whole2 _ inb) h

theorem W.st_tmp {a : ℕ} {inb} {hx} {hm} {w : Vec F S80x512 .f32} {k : PUnit → Pr F α} (hlt : a / 80 < 8) (h0 : a % 80 = 0)
    (h : W A c ⟨q, kk, vt, gc, o, m, acc, st, p, upd tmp ⟨a / 80, hlt⟩ w, fl⟩ (k ⟨⟩) Q) :
    W A c ⟨q, kk, vt, gc, o, m, acc, st, p, tmp, fl⟩
      (.op (.store A.tmp (Rect.unit (s := S640x512) ![a, 0] S80x512.size inb) w Finset.univ hx hm) k) Q :=
  W.store_val splits_tmp (congrArg (fun X => St.mk q kk vt gc o m acc st p X fl) ((congrArg (ungl 8 80 rfl) (put_gl rfl tmp inb hlt h0 w)).trans (ungl_gl rfl _))) h

theorem W.ld_st8 {j r : ℕ} {inb} {hl} {k : Vec F S1x8x512 .f32 → Pr F α} (hj : j < 3) (hb : r + 8 ≤ 2048)
    (h : W A c ⟨q, kk, vt, gc, o, m, acc, st, p, tmp, fl⟩ (k (sub3 8 r hb (st ⟨j, hj⟩))) Q) :
    W A c ⟨q, kk, vt, gc, o, m, acc, st, p, tmp, fl⟩
      (.op (.load A.st (Rect.unit (s := S3x2048x512) ![j, r, 0] S1x8x512.size inb).toLoadRect hl) k) Q :=
  W.load_val splits_st get_st (ld_sub3 st inb hj hb) h

theorem W.ld_st64 {j r : ℕ} {inb} {hl} {k : Vec F S1x64x512 .f32 → Pr F α} (hj : j < 3) (hb : r + 64 ≤ 2048)
    (h : W A c ⟨q, kk, vt, gc, o, m, acc, st, p, tmp, fl⟩ (k (sub3 64 r hb (st ⟨j, hj⟩))) Q) :
    W A c ⟨q, kk, vt, gc, o, m, acc, st, p, tmp, fl⟩
      (.op (.load A.st (Rect.unit (s := S3x2048x512) ![j, r, 0] S1x64x512.size inb).toLoadRect hl) k) Q :=
  W.load_val splits_st get_st (ld_sub3 st inb hj hb) h

theorem W.ld_st {j : ℕ} {inb} {hl} {k : Vec F S1x2048x512 .f32 → Pr F α} (hj : j < 3)
    (h : W A c ⟨q, kk, vt, gc, o, m, acc, st, p, tmp, fl⟩ (k (st ⟨j, hj⟩)) Q) :
    W A c ⟨q, kk, vt, gc, o, m, acc, st, p, tmp, fl⟩
      (.op (.load A.st (Rect.unit (s := S3x2048x512) ![j, 0, 0] S1x2048x512.size inb).toLoadRect hl) k) Q :=
  W.load_val splits_st get_st ((ld_sub3 st inb hj (by decide)).trans (sub3_full _ _)) h

theorem W.st_st {j : ℕ} {inb} {hx} {hm} {w : Vec F S1x2048x512 .f32} {k : PUnit → Pr F α} (hj : j < 3)
    (h : W A c ⟨q, kk, vt, gc, o, m, acc, upd st ⟨j, hj⟩ w, p, tmp, fl⟩ (k ⟨⟩) Q) :
    W A c ⟨q, kk, vt, gc, o, m, acc, st, p, tmp, fl⟩
      (.op (.store A.st (Rect.unit (s := S3x2048x512) ![j, 0, 0] S1x2048x512.size inb) w Finset.univ hx hm) k) Q :=
  W.store_val splits_st (congrArg (fun X => St.mk q kk vt gc o m acc X p tmp fl) ((congrArg ungl3 (put_gl3 st inb hj w)).trans (ungl3_gl3 _))) h

/-- The first `r` rows of slot `s` of `p` are those of `f`. -/
def Filled (p : Vec F S3x2048x512 .bf16) (s r : ℕ) (f : Vec F S1x2048x512 .bf16) : Prop :=
  ∀ x : S3x2048x512.Idx, (x 0).val = s → (x 1).val < r → p x = f (ix3 0 (x 1) (x 2))

theorem filled_zero (p : Vec F S3x2048x512 .bf16) (s : ℕ) (f : Vec F S1x2048x512 .bf16) : Filled p s 0 f :=
  fun _ _ h => absurd h (Nat.not_lt_zero _)

theorem filled_put {s r r' : ℕ} {f : Vec F S1x2048x512 .bf16} {w : Vec F S1x64x512 .bf16} (hr : r' = r + 64) (hb : r + 64 ≤ 2048)
    (inb) (hp : Filled p s r f) (hw : w = sub3 64 r hb f) :
    Filled (put p (Rect.unit (s := S3x2048x512) ![s, r, 0] S1x64x512.size inb) w) s r' f := by
  intro x hx0 hx1
  by_cases hlt : (x 1).val < r
  · rw [put, Rect.overlay_of_not_mem, hp x hx0 hlt]
    intro hm
    rw [Rect.mem_set_unit] at hm
    have h1 : r ≤ (x 1).val := (hm 1).1
    omega
  · have : x = (Rect.unit (s := S3x2048x512) ![s, r, 0] S1x64x512.size inb).emb (ix3 0 ⟨(x 1).val - r, by omega⟩ (x 2)) := by
      funext d
      match d with
      | ⟨0, _⟩ => exact Fin.ext (hx0.trans (by show s = s + 1 * 0; omega))
      | ⟨1, _⟩ => exact Fin.ext (by show (x 1).val = r + 1 * ((x 1).val - r); omega)
      | ⟨2, _⟩ => exact Fin.ext (by show (x 2).val = 0 + 1 * (x 2).val; omega)
    refine (congrArg _ this).trans ((Rect.overlay_emb _ _ _ _).trans ?_)
    rw [hw]
    exact congrArg (fun z => f (ix3 0 z (x 2))) (Fin.ext (by show r + ((x 1).val - r) = (x 1).val; omega))

theorem W.ld_p_any {rr : Rect S3x2048x512} {hl} {k : (rr.shape.Idx → Elt F .bf16) → Pr F α}
    (h : ∀ v, W A c ⟨q, kk, vt, gc, o, m, acc, st, p, tmp, fl⟩ (k v) Q) :
    W A c ⟨q, kk, vt, gc, o, m, acc, st, p, tmp, fl⟩ (.op (.load A.p rr.toLoadRect hl) k) Q :=
  W.load_of splits_p (fun _ => rfl) (h _)

theorem W.ld_p {s : ℕ} {inb} {hl} {f : Vec F S1x2048x512 .bf16} {k : Vec F S1x2048x512 .bf16 → Pr F α} (hp : Filled p s 2048 f)
    (h : W A c ⟨q, kk, vt, gc, o, m, acc, st, p, tmp, fl⟩ (k f) Q) :
    W A c ⟨q, kk, vt, gc, o, m, acc, st, p, tmp, fl⟩
      (.op (.load A.p (Rect.unit (s := S3x2048x512) ![s, 0, 0] S1x2048x512.size inb).toLoadRect hl) k) Q :=
  W.load_val splits_p (fun _ => rfl) (by
    funext x
    refine (hp _ ?_ ?_).trans ?_
    · show s + 1 * (x 0).val = s
      have : (x 0).val < 1 := (x 0).isLt
      omega
    · show 0 + 1 * (x 1).val < 2048
      have : (x 1).val < 2048 := (x 1).isLt
      omega
    · refine congrArg f (funext fun d => Fin.ext ?_)
      match d with
      | ⟨0, _⟩ => show 0 = (x 0).val; have : (x 0).val < 1 := (x 0).isLt; omega
      | ⟨1, _⟩ => show 0 + 1 * (x 1).val = (x 1).val; omega
      | ⟨2, _⟩ => show 0 + 1 * (x 2).val = (x 2).val; omega) h

theorem W.st_p {s r : ℕ} (r' : ℕ) {inb} {hx} {hm} {w : Vec F S1x64x512 .bf16} {f : Vec F S1x2048x512 .bf16} {k : PUnit → Pr F α}
    (hp : Filled p s r f) (hr : r' = r + 64) (hb : r + 64 ≤ 2048) (hw : w = sub3 64 r hb f)
    (h : ∀ p', Filled p' s r' f → W A c ⟨q, kk, vt, gc, o, m, acc, st, p', tmp, fl⟩ (k ⟨⟩) Q) :
    W A c ⟨q, kk, vt, gc, o, m, acc, st, p, tmp, fl⟩
      (.op (.store A.p (Rect.unit (s := S3x2048x512) ![s, r, 0] S1x64x512.size inb) w Finset.univ hx hm) k) Q :=
  W.store_of splits_p (h _ (filled_put hr hb inb hp hw))

theorem W.ld_flag {rr : Rect S1} {hl} {k : (rr.shape.Idx → Elt F .i32) → Pr F α}
    (h : W A c ⟨q, kk, vt, gc, o, m, acc, st, p, tmp, fl⟩ (k (View.ld fl rr)) Q) :
    W A c ⟨q, kk, vt, gc, o, m, acc, st, p, tmp, fl⟩ (.op (.load A.flag rr.toLoadRect hl) k) Q :=
  W.load_of splits_flag (fun _ => rfl) h

theorem W.st_flag {rr : Rect S1} {hx} {hm} {w : rr.shape.Idx → Elt F .i32} {k : PUnit → Pr F α}
    (h : ∀ fl', W A c ⟨q, kk, vt, gc, o, m, acc, st, p, tmp, fl'⟩ (k ⟨⟩) Q) :
    W A c ⟨q, kk, vt, gc, o, m, acc, st, p, tmp, fl⟩ (.op (.store A.flag rr w Finset.univ hx hm) k) Q :=
  W.store_of splits_flag (h _)

end Cert.Mla
-- ==== Proof.Launch.lean ====
/-
  The whole call from what one grid point does: its windows, its scratch buffers, and the invariant carried in them.
-/
module

public import proofs.«01_k».proof.Proof.Rules
public import proofs.«01_k».proof.Proof.Gen.KernelIdeal.Frame

@[expose] public section

noncomputable section

namespace Cert.Mla

open Cert.KernelIdeal Cert.KernelIdeal.Facts Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F] [Named F]

local notation "𝕄" => MT nD τ sig Unit (Elt F) ℕ (UR sig nD τ) ℕ

/-- The memrefs the body is called with at a grid point. -/
abbrev bufs (t : Fin cfg0.N) : Bufs where
  q := win0_0.stage (cfg0.slots t 0)
  hq := hstage0_0 ((cfg0.slots t 0).cast nbuf0_0)
  k := win0_1.stage (cfg0.slots t 1)
  hk := hstage0_1 ((cfg0.slots t 1).cast nbuf0_1)
  vt := win0_2.stage (cfg0.slots t 2)
  hvt := hstage0_2 ((cfg0.slots t 2).cast nbuf0_2)
  gc := win0_3.stage (cfg0.slots t 3)
  hgc := hstage0_3 ((cfg0.slots t 3).cast nbuf0_3)
  o := win0_4.stage (cfg0.slots t 4)
  ho := hstage0_4 ((cfg0.slots t 4).cast nbuf0_4)
  m := Memref.whole cc0_scratch0
  hm := Memref.isWhole_whole _
  acc := Memref.whole cc0_scratch1
  hacc := Memref.isWhole_whole _
  st := Memref.whole cc0_scratch2
  hst := Memref.isWhole_whole _
  p := Memref.whole cc0_scratch3
  hp := Memref.isWhole_whole _
  tmp := Memref.whole cc0_scratch4
  htmp := Memref.isWhole_whole _
  flag := Memref.whole cc0_scratch5
  hflag := Memref.isWhole_whole _

/-- What is known of the reference rows and the accumulators before each grid point. -/
abbrev Track (F : FTy → Type) := Fin (cfg0.N + 1) → (Fin 8 → Vec F S1x512 .f32) → (Fin 8 → Vec F S80x512 .f32) → Prop

/-- What a grid point may leave in its windows. -/
abbrev After (F : FTy → Type) := (w : Fin cfg0.W) → Fin cfg0.N → (Y X : (cfg0.win w).block.Idx → Elt F (cfg0.win w).elt) → Prop

/-- The scratch buffers at contents the tracked predicate holds of. -/
def scratch (I : Track F) (c : Dev nD) (t : Fin (cfg0.N + 1)) : sProp 𝕄 :=
  iprop(∃ m, ∃ acc, ∃ st, ∃ p, ∃ tmp, ∃ fl, ⌜I t m acc⌝
    ∗ owns (c : Thread nD τ) (Memref.whole cc0_scratch0) fullShare (gl 8 1 rfl m)
    ∗ owns (c : Thread nD τ) (Memref.whole cc0_scratch1) fullShare (gl 8 80 rfl acc)
    ∗ owns (c : Thread nD τ) (Memref.whole cc0_scratch2) fullShare (gl3 st)
    ∗ owns (c : Thread nD τ) (Memref.whole cc0_scratch3) fullShare p
    ∗ owns (c : Thread nD τ) (Memref.whole cc0_scratch4) fullShare (gl 8 80 rfl tmp)
    ∗ owns (c : Thread nD τ) (Memref.whole cc0_scratch5) fullShare fl
    ∗ ∃ r, prngReg c r)

variable (m : (ℓ : Loc nD τ sig) → Buf (Elt F) ℓ) (ρ : Dev nD → PrngReg)

/-- The call's proof data. -/
def dat (after : After F) (I : Track F) (c : Dev nD) : RDat τ (Elt F) Unit ℕ (UR sig nD τ) ℕ cfg0 c where
  A w := V m c (Pipeline.arrRef spec0 w)
  after := after
  Φ t := scratch I c t
  q _ := fullShare
  owed _ := 0

/-- What one grid point is asked to do. -/
def Point (after : After F) (I : Track F) (c : Dev nD) : Prop :=
  ∀ (t : Fin cfg0.N) (Y : (w : Fin cfg0.W) → (cfg0.win w).block.Idx → Elt F (cfg0.win w).elt), (∀ w, (dat m after I c).Finds w t (Y w)) →
    ∀ mr acc st p tmp fl, I t.castSucc mr acc →
      W (bufs t) c ⟨Y 0, Y 1, Y 2, Y 3, Y 4, mr, acc, st, p, tmp, fl⟩ (bodyAt0 t) fun _ σ =>
        after 0 t (Y 0) σ.q ∧ after 1 t (Y 1) σ.k ∧ after 2 t (Y 2) σ.vt ∧ after 3 t (Y 3) σ.gc ∧ after 4 t (Y 4) σ.o ∧ I t.succ σ.m σ.acc

variable {m} {after : After F} {I : Track F} {c : Dev nD}

theorem defs₀_row (t : Fin cfg0.N) : defs₀ (F := F) .tc cfg0.body (cfg0.bodyArgs t (cfg0.slots t)) = bodyAt0 t := by
  unfold defs₀; rw [Defs.onTc_tc]

theorem obligation (h : Point m after I c) : (dat m after I c).BodyObligation (defs₀ (F := F)) Variants.none () Set.univ := fun t Y hY => by
  rw [bigSep_W0, bigSep_W0, defs₀_row]
  rw [show (dat m after I c).Φ t.castSucc = scratch I c t.castSucc from rfl, show (dat m after I c).Φ t.succ = scratch I c t.succ from rfl,
    show (dat m after I c).owesAt () t.succ = (dat m after I c).owesAt () t.castSucc from rfl]
  unfold scratch
  iintro ⟨⟨%mr, %acc, %st, %p, %tmp, %fl, %hI, Hm, Ha, Hs, Hp, Ht, Hf, Hr⟩, HO, H0, H1, H2, H3, H4⟩
  iapply ((h t Y hY mr acc st p tmp fl hI).run _)
  isplitl [Hm Ha Hs Hp Ht Hf H0 H1 H2 H3 H4]
  · unfold own
    isplitl [H0]; · iexact H0
    isplitl [H1]; · iexact H1
    isplitl [H2]; · iexact H2
    isplitl [H3]; · iexact H3
    isplitl [H4]; · iexact H4
    isplitl [Hm]; · iexact Hm
    isplitl [Ha]; · iexact Ha
    isplitl [Hs]; · iexact Hs
    isplitl [Hp]; · iexact Hp
    isplitl [Ht]; · iexact Ht
    iexact Hf
  iintro %a %σ %hσ H
  unfold own
  icases H with ⟨H0, H1, H2, H3, H4, Hm, Ha, Hs, Hp, Ht, Hf⟩
  isplitl [Hm Ha Hs Hp Ht Hf Hr]
  · iexists σ.m, σ.acc, σ.st, σ.p, σ.tmp, σ.flag
    isplitr; · ipureintro; exact hσ.2.2.2.2.2
    isplitl [Hm]; · iexact Hm
    isplitl [Ha]; · iexact Ha
    isplitl [Hs]; · iexact Hs
    isplitl [Hp]; · iexact Hp
    isplitl [Ht]; · iexact Ht
    isplitl [Hf]; · iexact Hf
    iexact Hr
  isplitl [HO]; · iexact HO
  isplitl [H0]; · iexists σ.q; isplitr; · ipureintro; exact hσ.1
                  iexact H0
  isplitl [H1]; · iexists σ.k; isplitr; · ipureintro; exact hσ.2.1
                  iexact H1
  isplitl [H2]; · iexists σ.vt; isplitr; · ipureintro; exact hσ.2.2.1
                  iexact H2
  isplitl [H3]; · iexists σ.gc; isplitr; · ipureintro; exact hσ.2.2.2.1
                  iexact H3
  iexists σ.o; isplitr; · ipureintro; exact hσ.2.2.2.2.1
  iexact H4

theorem scratch_enter (h0 : ∀ mr acc, I 0 mr acc) : (Pipeline.ΦA spec0 c : sProp 𝕄) ⊢ scratch I c 0 := by
  unfold scratch Pipeline.ΦA
  rw [scopedRest0_eq]
  simp only [owns_whole]
  iintro ⟨⟨⟨%f0, H0⟩, ⟨%f1, H1⟩, ⟨%f2, H2⟩, ⟨%f3, H3⟩, ⟨%f4, H4⟩, ⟨%f5, H5⟩⟩, Hr⟩
  iexists (ungl 8 1 rfl f0), (ungl 8 80 rfl f1), (ungl3 f2), f3, (ungl 8 80 rfl f4), f5
  simp only [gl_ungl, gl3_ungl3]
  isplitr; · ipureintro; exact h0 _ _
  isplitl [H0]; · iexact H0
  isplitl [H1]; · iexact H1
  isplitl [H2]; · iexact H2
  isplitl [H3]; · iexact H3
  isplitl [H4]; · iexact H4
  isplitl [H5]; · iexact H5
  iexact Hr

theorem scratch_leave (t : Fin (cfg0.N + 1)) : scratch I c t ⊢ (Pipeline.ΦA spec0 c : sProp 𝕄) := by
  unfold scratch Pipeline.ΦA
  rw [scopedRest0_eq]
  simp only [owns_whole]
  iintro ⟨%mr, %acc, %st, %p, %tmp, %fl, -, H0, H1, H2, H3, H4, H5, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hr

variable (m) (after) (I)

-- the run's implicit arguments are found by unifying its conclusion with this statement
set_option backward.isDefEq.respectTransparency.types false in
theorem run_main (h0 : ∀ mr acc, I 0 mr acc) (hp : ∀ c, Point m after I c) :
    θ_run defs (onTc (τ := τ) (main (F := F))) ⟨m, fun _ => 0, ρ⟩
      (fun r => RDat.FramePost (cfgs 0) (fun c => dat m after I c) (V m) r ∧ r.2.sem = fun _ => 0) :=
  RDat.θ_run_frame_track (Q' := _) cfgs (0 : Fin 1) launch0 defs₀ Variants.none (fun c => dat m after I c) m ρ main
    (hbody := fun c => obligation (hp c)) (hshare := fun c w => RDat.share_full _ (fun _ => rfl) w)
    (howed := fun _ _ => rfl) (V := V m) (hmain := hmain m Variants.none) (hA := fun _ _ => rfl)
    (hin := fun _ => scratch_enter h0) (hout := fun _ => scratch_leave _) (hQ' := fun _ h => h)

end Cert.Mla
-- ==== Proof.Safe.lean ====
/-
  The kernel's body runs to its end from any contents of its buffers.
-/
module

public import proofs.«01_k».proof.Proof.Rules

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem

variable {F : FTy → Type} [FloatOps F] [Named F] {A : Bufs} {c : Dev nD} {α : Type}

variable (A c) in
/-- From any contents, the program runs to an end. -/
structure T (p : Pr F α) : Prop where
  all : ∀ σ, W A c σ p fun _ _ => True

theorem T.ret {a : α} : T (F := F) A c (.ret a) := ⟨fun _ => .ret trivial⟩

theorem T.bind {β : Type} {p : Pr F α} {k : α → Pr F β} (hp : T (F := F) A c p) (hk : ∀ a, T (F := F) A c (k a)) : T (F := F) A c (p >>= k) :=
  ⟨fun σ => .bind ((hp.all σ).mono fun a σ' _ => (hk a).all σ')⟩

section
variable {s : Shape} {e : EltTy} {cs : CoreSpace} {m : Memref sig .tc cs s e} {get : St F → Vec F s e} {set : St F → Vec F s e → St F}

theorem T.load_of (hs : Splits (A := A) (c := c) m get set) (hg : ∀ σ, set σ (get σ) = σ) {r : Rect s}
    {hl : m.view.LoadsAt r.toLoadRect} {k : (r.shape.Idx → Elt F e) → Pr F α} (h : ∀ v, T (F := F) A c (k v)) :
    T (F := F) A c (.op (.load m r.toLoadRect hl) k) := ⟨fun σ => W.load_of hs hg ((h _).all σ)⟩

theorem T.store_of (hs : Splits (A := A) (c := c) m get set) {r : Rect s} {w : r.shape.Idx → Elt F e}
    {hx : (m.access r).Stores Finset.univ} {hm : Finset.univ = Finset.univ ∨ ∀ a, r.stride a = 1} {k : PUnit → Pr F α}
    (h : T (F := F) A c (k ⟨⟩)) : T (F := F) A c (.op (.store m r w Finset.univ hx hm) k) := ⟨fun _ => W.store_of hs (h.all _)⟩

end

section
variable {rq : Rect S1x512x1024} {rk : Rect S1x2048x1024} {rv : Rect S1x640x2048} {rg : Rect S1x512x512} {rm : Rect S8x512} {ra : Rect S640x512}
  {rs : Rect S3x2048x512} {rf : Rect S1}

theorem T.ld_q {hl} {k : (rq.shape.Idx → Elt F .bf16) → Pr F α} (h : ∀ v, T (F := F) A c (k v)) : T (F := F) A c (.op (.load A.q rq.toLoadRect hl) k) := .load_of splits_q (fun _ => rfl) h
theorem T.ld_k {hl} {k : (rk.shape.Idx → Elt F .bf16) → Pr F α} (h : ∀ v, T (F := F) A c (k v)) : T (F := F) A c (.op (.load A.k rk.toLoadRect hl) k) := .load_of splits_k (fun _ => rfl) h
theorem T.ld_vt {hl} {k : (rv.shape.Idx → Elt F .bf16) → Pr F α} (h : ∀ v, T (F := F) A c (k v)) : T (F := F) A c (.op (.load A.vt rv.toLoadRect hl) k) := .load_of splits_vt (fun _ => rfl) h
theorem T.ld_gc {hl} {k : (rg.shape.Idx → Elt F .bf16) → Pr F α} (h : ∀ v, T (F := F) A c (k v)) : T (F := F) A c (.op (.load A.gc rg.toLoadRect hl) k) := .load_of splits_gc (fun _ => rfl) h
theorem T.ld_o {hl} {k : (rg.shape.Idx → Elt F .bf16) → Pr F α} (h : ∀ v, T (F := F) A c (k v)) : T (F := F) A c (.op (.load A.o rg.toLoadRect hl) k) := .load_of splits_o (fun _ => rfl) h
theorem T.ld_m {hl} {k : (rm.shape.Idx → Elt F .f32) → Pr F α} (h : ∀ v, T (F := F) A c (k v)) : T (F := F) A c (.op (.load A.m rm.toLoadRect hl) k) := .load_of splits_m get_m h
theorem T.ld_acc {hl} {k : (ra.shape.Idx → Elt F .f32) → Pr F α} (h : ∀ v, T (F := F) A c (k v)) : T (F := F) A c (.op (.load A.acc ra.toLoadRect hl) k) := .load_of splits_acc get_acc h
theorem T.ld_st {hl} {k : (rs.shape.Idx → Elt F .f32) → Pr F α} (h : ∀ v, T (F := F) A c (k v)) : T (F := F) A c (.op (.load A.st rs.toLoadRect hl) k) := .load_of splits_st get_st h
theorem T.ld_p {hl} {k : (rs.shape.Idx → Elt F .bf16) → Pr F α} (h : ∀ v, T (F := F) A c (k v)) : T (F := F) A c (.op (.load A.p rs.toLoadRect hl) k) := .load_of splits_p (fun _ => rfl) h
theorem T.ld_tmp {hl} {k : (ra.shape.Idx → Elt F .f32) → Pr F α} (h : ∀ v, T (F := F) A c (k v)) : T (F := F) A c (.op (.load A.tmp ra.toLoadRect hl) k) := .load_of splits_tmp get_tmp h
theorem T.ld_flag {hl} {k : (rf.shape.Idx → Elt F .i32) → Pr F α} (h : ∀ v, T (F := F) A c (k v)) : T (F := F) A c (.op (.load A.flag rf.toLoadRect hl) k) := .load_of splits_flag (fun _ => rfl) h
theorem T.st_o {w} {hx} {hm} {k : PUnit → Pr F α} (h : T (F := F) A c (k ⟨⟩)) : T (F := F) A c (.op (.store A.o rg w Finset.univ hx hm) k) := .store_of splits_o h
theorem T.st_m {w} {hx} {hm} {k : PUnit → Pr F α} (h : T (F := F) A c (k ⟨⟩)) : T (F := F) A c (.op (.store A.m rm w Finset.univ hx hm) k) := .store_of splits_m h
theorem T.st_acc {w} {hx} {hm} {k : PUnit → Pr F α} (h : T (F := F) A c (k ⟨⟩)) : T (F := F) A c (.op (.store A.acc ra w Finset.univ hx hm) k) := .store_of splits_acc h
theorem T.st_st {w} {hx} {hm} {k : PUnit → Pr F α} (h : T (F := F) A c (k ⟨⟩)) : T (F := F) A c (.op (.store A.st rs w Finset.univ hx hm) k) := .store_of splits_st h
theorem T.st_p {w} {hx} {hm} {k : PUnit → Pr F α} (h : T (F := F) A c (k ⟨⟩)) : T (F := F) A c (.op (.store A.p rs w Finset.univ hx hm) k) := .store_of splits_p h
theorem T.st_tmp {w} {hx} {hm} {k : PUnit → Pr F α} (h : T (F := F) A c (k ⟨⟩)) : T (F := F) A c (.op (.store A.tmp ra w Finset.univ hx hm) k) := .store_of splits_tmp h
theorem T.st_flag {w} {hx} {hm} {k : PUnit → Pr F α} (h : T (F := F) A c (k ⟨⟩)) : T (F := F) A c (.op (.store A.flag rf w Finset.univ hx hm) k) := .store_of splits_flag h
end

theorem T.ite {P : Prop} [Decidable P] {p p' : Pr F α} (h' : T (F := F) A c p') (h : T (F := F) A c p' → T (F := F) A c p) :
    T (F := F) A c (if P then p else p') := by
  split
  · exact h h'
  · exact h'

theorem T.dite {P : Prop} [Decidable P] {p : P → Pr F α} {p' : ¬ P → Pr F α} (h : ∀ e, T (F := F) A c (p e)) (h' : ∀ e, T (F := F) A c (p' e)) :
    T (F := F) A c (if e : P then p e else p' e) := by
  split
  · exact h _
  · exact h' _

set_option maxHeartbeats 0 in
theorem begin_runs (i : grid0.Coords) : T (F := F) A c (k0_part289 i A.q A.hq A.k A.hk A.vt A.hvt A.gc A.hgc A.o A.ho A.m A.hm A.acc A.hacc A.st A.hst A.p A.hp A.tmp A.htmp A.flag A.hflag) := by
  refine T.dite (F := F) (fun _ => ?_) (fun _ => ?_)
  ·
    iterate 28
      change T _ _ (.op _ _)
      first
        | refine T.ld_st (F := F) fun _ => ?_
        | refine T.ld_p (F := F) fun _ => ?_
        | refine T.st_p (F := F) ?_
        | refine T.st_st (F := F) ?_
        | refine T.ld_q (F := F) fun _ => ?_
        | refine T.ld_k (F := F) fun _ => ?_
        | refine T.ld_vt (F := F) fun _ => ?_
        | refine T.ld_m (F := F) fun _ => ?_
        | refine T.st_m (F := F) ?_
        | refine T.ld_acc (F := F) fun _ => ?_
        | refine T.st_acc (F := F) ?_
        | refine T.ld_tmp (F := F) fun _ => ?_
        | refine T.st_tmp (F := F) ?_
        | refine T.ld_flag (F := F) fun _ => ?_
        | refine T.st_flag (F := F) ?_
        | refine T.ld_gc (F := F) fun _ => ?_
        | refine T.ld_o (F := F) fun _ => ?_
        | refine T.st_o (F := F) ?_
    exact T.ret (F := F)
  ·
    iterate 8
      change T _ _ (.op _ _)
      first
        | refine T.ld_st (F := F) fun _ => ?_
        | refine T.ld_p (F := F) fun _ => ?_
        | refine T.st_p (F := F) ?_
        | refine T.st_st (F := F) ?_
        | refine T.ld_q (F := F) fun _ => ?_
        | refine T.ld_k (F := F) fun _ => ?_
        | refine T.ld_vt (F := F) fun _ => ?_
        | refine T.ld_m (F := F) fun _ => ?_
        | refine T.st_m (F := F) ?_
        | refine T.ld_acc (F := F) fun _ => ?_
        | refine T.st_acc (F := F) ?_
        | refine T.ld_tmp (F := F) fun _ => ?_
        | refine T.st_tmp (F := F) ?_
        | refine T.ld_flag (F := F) fun _ => ?_
        | refine T.st_flag (F := F) ?_
        | refine T.ld_gc (F := F) fun _ => ?_
        | refine T.ld_o (F := F) fun _ => ?_
        | refine T.st_o (F := F) ?_
    exact T.ret (F := F)

set_option maxHeartbeats 0 in
theorem part284_runs (i : grid0.Coords)  : T (F := F) A c (k0_part284 i A.q A.hq A.k A.hk A.vt A.hvt A.gc A.hgc A.o A.ho A.m A.hm A.acc A.hacc A.st A.hst A.p A.hp A.tmp A.htmp A.flag A.hflag ) := by
  iterate 614
    change T _ _ (.op _ _)
    first
      | refine T.ld_st (F := F) fun _ => ?_
      | refine T.ld_p (F := F) fun _ => ?_
      | refine T.st_p (F := F) ?_
      | refine T.st_st (F := F) ?_
      | refine T.ld_q (F := F) fun _ => ?_
      | refine T.ld_k (F := F) fun _ => ?_
      | refine T.ld_vt (F := F) fun _ => ?_
      | refine T.ld_m (F := F) fun _ => ?_
      | refine T.st_m (F := F) ?_
      | refine T.ld_acc (F := F) fun _ => ?_
      | refine T.st_acc (F := F) ?_
      | refine T.ld_tmp (F := F) fun _ => ?_
      | refine T.st_tmp (F := F) ?_
      | refine T.ld_flag (F := F) fun _ => ?_
      | refine T.st_flag (F := F) ?_
      | refine T.ld_gc (F := F) fun _ => ?_
      | refine T.ld_o (F := F) fun _ => ?_
      | refine T.st_o (F := F) ?_
  exact T.ret (F := F)

set_option maxHeartbeats 0 in
theorem part285_runs (i : grid0.Coords) (v1995 : FVec F S8x512 .f32) (v1998 : FVec F S8x512 .f32) (v2001 : FVec F S8x512 .f32) (v2004 : FVec F S8x512 .f32) : T (F := F) A c (k0_part285 i A.q A.hq A.k A.hk A.vt A.hvt A.gc A.hgc A.o A.ho A.m A.hm A.acc A.hacc A.st A.hst A.p A.hp A.tmp A.htmp A.flag A.hflag v1995 v1998 v2001 v2004) := by
  iterate 626
    change T _ _ (.op _ _)
    first
      | refine T.ld_st (F := F) fun _ => ?_
      | refine T.ld_p (F := F) fun _ => ?_
      | refine T.st_p (F := F) ?_
      | refine T.st_st (F := F) ?_
      | refine T.ld_q (F := F) fun _ => ?_
      | refine T.ld_k (F := F) fun _ => ?_
      | refine T.ld_vt (F := F) fun _ => ?_
      | refine T.ld_m (F := F) fun _ => ?_
      | refine T.st_m (F := F) ?_
      | refine T.ld_acc (F := F) fun _ => ?_
      | refine T.st_acc (F := F) ?_
      | refine T.ld_tmp (F := F) fun _ => ?_
      | refine T.st_tmp (F := F) ?_
      | refine T.ld_flag (F := F) fun _ => ?_
      | refine T.st_flag (F := F) ?_
      | refine T.ld_gc (F := F) fun _ => ?_
      | refine T.ld_o (F := F) fun _ => ?_
      | refine T.st_o (F := F) ?_
  exact T.ret (F := F)

set_option maxHeartbeats 0 in
theorem part286_runs (i : grid0.Coords) (v3858 : FVec F S8x512 .f32) (v3861 : FVec F S8x512 .f32) (v3864 : FVec F S8x512 .f32) (v3867 : FVec F S8x512 .f32) (v3868 : Vec F S1x8x512 .f32) : T (F := F) A c (k0_part286 i A.q A.hq A.k A.hk A.vt A.hvt A.gc A.hgc A.o A.ho A.m A.hm A.acc A.hacc A.st A.hst A.p A.hp A.tmp A.htmp A.flag A.hflag v3858 v3861 v3864 v3867 v3868) := by
  iterate 625
    change T _ _ (.op _ _)
    first
      | refine T.ld_st (F := F) fun _ => ?_
      | refine T.ld_p (F := F) fun _ => ?_
      | refine T.st_p (F := F) ?_
      | refine T.st_st (F := F) ?_
      | refine T.ld_q (F := F) fun _ => ?_
      | refine T.ld_k (F := F) fun _ => ?_
      | refine T.ld_vt (F := F) fun _ => ?_
      | refine T.ld_m (F := F) fun _ => ?_
      | refine T.st_m (F := F) ?_
      | refine T.ld_acc (F := F) fun _ => ?_
      | refine T.st_acc (F := F) ?_
      | refine T.ld_tmp (F := F) fun _ => ?_
      | refine T.st_tmp (F := F) ?_
      | refine T.ld_flag (F := F) fun _ => ?_
      | refine T.st_flag (F := F) ?_
      | refine T.ld_gc (F := F) fun _ => ?_
      | refine T.ld_o (F := F) fun _ => ?_
      | refine T.st_o (F := F) ?_
  exact T.ret (F := F)

set_option maxHeartbeats 0 in
theorem part287_runs (i : grid0.Coords) (v5724 : FVec F S8x512 .f32) (v5727 : FVec F S8x512 .f32) (v5730 : FVec F S8x512 .f32) (v5733 : FVec F S8x512 .f32) : T (F := F) A c (k0_part287 i A.q A.hq A.k A.hk A.vt A.hvt A.gc A.hgc A.o A.ho A.m A.hm A.acc A.hacc A.st A.hst A.p A.hp A.tmp A.htmp A.flag A.hflag v5724 v5727 v5730 v5733) := by
  iterate 615
    change T _ _ (.op _ _)
    first
      | refine T.ld_st (F := F) fun _ => ?_
      | refine T.ld_p (F := F) fun _ => ?_
      | refine T.st_p (F := F) ?_
      | refine T.st_st (F := F) ?_
      | refine T.ld_q (F := F) fun _ => ?_
      | refine T.ld_k (F := F) fun _ => ?_
      | refine T.ld_vt (F := F) fun _ => ?_
      | refine T.ld_m (F := F) fun _ => ?_
      | refine T.st_m (F := F) ?_
      | refine T.ld_acc (F := F) fun _ => ?_
      | refine T.st_acc (F := F) ?_
      | refine T.ld_tmp (F := F) fun _ => ?_
      | refine T.st_tmp (F := F) ?_
      | refine T.ld_flag (F := F) fun _ => ?_
      | refine T.st_flag (F := F) ?_
      | refine T.ld_gc (F := F) fun _ => ?_
      | refine T.ld_o (F := F) fun _ => ?_
      | refine T.st_o (F := F) ?_
  exact T.ret (F := F)

set_option maxHeartbeats 0 in
theorem body_runs (i : grid0.Coords) : T (F := F) A c (k0_part294 i A.q A.hq A.k A.hk A.vt A.hvt A.gc A.hgc A.o A.ho A.m A.hm A.acc A.hacc A.st A.hst A.p A.hp A.tmp A.htmp A.flag A.hflag) := by
  refine T.bind (F := F) (begin_runs i) fun _ => ?_
  iterate 51
    change T _ _ (.op _ _)
    first
      | refine T.ld_st (F := F) fun _ => ?_
      | refine T.ld_p (F := F) fun _ => ?_
      | refine T.st_p (F := F) ?_
      | refine T.st_st (F := F) ?_
      | refine T.ld_q (F := F) fun _ => ?_
      | refine T.ld_k (F := F) fun _ => ?_
      | refine T.ld_vt (F := F) fun _ => ?_
      | refine T.ld_m (F := F) fun _ => ?_
      | refine T.st_m (F := F) ?_
      | refine T.ld_acc (F := F) fun _ => ?_
      | refine T.st_acc (F := F) ?_
      | refine T.ld_tmp (F := F) fun _ => ?_
      | refine T.st_tmp (F := F) ?_
      | refine T.ld_flag (F := F) fun _ => ?_
      | refine T.st_flag (F := F) ?_
      | refine T.ld_gc (F := F) fun _ => ?_
      | refine T.ld_o (F := F) fun _ => ?_
      | refine T.st_o (F := F) ?_
  refine T.ite (F := F) ?_ fun h => ?_
  ·
    iterate 1
      change T _ _ (.op _ _)
      first
        | refine T.ld_st (F := F) fun _ => ?_
        | refine T.ld_p (F := F) fun _ => ?_
        | refine T.st_p (F := F) ?_
        | refine T.st_st (F := F) ?_
        | refine T.ld_q (F := F) fun _ => ?_
        | refine T.ld_k (F := F) fun _ => ?_
        | refine T.ld_vt (F := F) fun _ => ?_
        | refine T.ld_m (F := F) fun _ => ?_
        | refine T.st_m (F := F) ?_
        | refine T.ld_acc (F := F) fun _ => ?_
        | refine T.st_acc (F := F) ?_
        | refine T.ld_tmp (F := F) fun _ => ?_
        | refine T.st_tmp (F := F) ?_
        | refine T.ld_flag (F := F) fun _ => ?_
        | refine T.st_flag (F := F) ?_
        | refine T.ld_gc (F := F) fun _ => ?_
        | refine T.ld_o (F := F) fun _ => ?_
        | refine T.st_o (F := F) ?_
    refine T.ite (F := F) ?_ fun h => ?_
    · refine T.dite (F := F) (fun _ => ?_) (fun _ => ?_)
      ·
        iterate 19
          change T _ _ (.op _ _)
          first
            | refine T.ld_st (F := F) fun _ => ?_
            | refine T.ld_p (F := F) fun _ => ?_
            | refine T.st_p (F := F) ?_
            | refine T.st_st (F := F) ?_
            | refine T.ld_q (F := F) fun _ => ?_
            | refine T.ld_k (F := F) fun _ => ?_
            | refine T.ld_vt (F := F) fun _ => ?_
            | refine T.ld_m (F := F) fun _ => ?_
            | refine T.st_m (F := F) ?_
            | refine T.ld_acc (F := F) fun _ => ?_
            | refine T.st_acc (F := F) ?_
            | refine T.ld_tmp (F := F) fun _ => ?_
            | refine T.st_tmp (F := F) ?_
            | refine T.ld_flag (F := F) fun _ => ?_
            | refine T.st_flag (F := F) ?_
            | refine T.ld_gc (F := F) fun _ => ?_
            | refine T.ld_o (F := F) fun _ => ?_
            | refine T.st_o (F := F) ?_
        exact T.ret (F := F)
      · exact T.ret (F := F)
    ·
      refine T.bind (F := F) (part284_runs i) fun _ => T.bind (F := F) (part285_runs i _ _ _ _ ) fun _ => T.bind (F := F) (part286_runs i _ _ _ _ _) fun _ => T.bind (F := F) (part287_runs i _ _ _ _) fun _ => ?_
      iterate 432
        change T _ _ (.op _ _)
        first
          | refine T.ld_st (F := F) fun _ => ?_
          | refine T.ld_p (F := F) fun _ => ?_
          | refine T.st_p (F := F) ?_
          | refine T.st_st (F := F) ?_
          | refine T.ld_q (F := F) fun _ => ?_
          | refine T.ld_k (F := F) fun _ => ?_
          | refine T.ld_vt (F := F) fun _ => ?_
          | refine T.ld_m (F := F) fun _ => ?_
          | refine T.st_m (F := F) ?_
          | refine T.ld_acc (F := F) fun _ => ?_
          | refine T.st_acc (F := F) ?_
          | refine T.ld_tmp (F := F) fun _ => ?_
          | refine T.st_tmp (F := F) ?_
          | refine T.ld_flag (F := F) fun _ => ?_
          | refine T.st_flag (F := F) ?_
          | refine T.ld_gc (F := F) fun _ => ?_
          | refine T.ld_o (F := F) fun _ => ?_
          | refine T.st_o (F := F) ?_
      exact h
  ·
    iterate 4
      change T _ _ (.op _ _)
      first
        | refine T.ld_st (F := F) fun _ => ?_
        | refine T.ld_p (F := F) fun _ => ?_
        | refine T.st_p (F := F) ?_
        | refine T.st_st (F := F) ?_
        | refine T.ld_q (F := F) fun _ => ?_
        | refine T.ld_k (F := F) fun _ => ?_
        | refine T.ld_vt (F := F) fun _ => ?_
        | refine T.ld_m (F := F) fun _ => ?_
        | refine T.st_m (F := F) ?_
        | refine T.ld_acc (F := F) fun _ => ?_
        | refine T.st_acc (F := F) ?_
        | refine T.ld_tmp (F := F) fun _ => ?_
        | refine T.st_tmp (F := F) ?_
        | refine T.ld_flag (F := F) fun _ => ?_
        | refine T.st_flag (F := F) ?_
        | refine T.ld_gc (F := F) fun _ => ?_
        | refine T.ld_o (F := F) fun _ => ?_
        | refine T.st_o (F := F) ?_
    exact h

end Cert.Mla
-- ==== Proof.Frames.lean ====
/-
  The call ends with its arguments as they were launched.
-/
module

public import proofs.«01_k».proof.Proof.Launch
public import proofs.«01_k».proof.Proof.Safe

@[expose] public section

noncomputable section

namespace Cert.Mla

open Cert.KernelIdeal Cert.KernelIdeal.Facts Cert.KernelIdeal.Gen
open Idealize.ShloMosaic Idealize.ShloMosaic.TcCoe
open Idealize.SL Idealize.SL.RA Idealize.SL.BI Idealize.SL.Sem
open Idealize.ShloMosaic.Pipeline (RDat Cfg Window)

variable {F : FTy → Type} [FloatOps F] [Named F]
variable (m : (ℓ : Loc nD τ sig) → Buf (Elt F) ℓ) (ρ : Dev nD → PrngReg)

theorem point_any (c : Dev nD) : Point m (fun _ _ _ _ => True) (fun _ _ _ => True) c := fun t _ _ _ _ _ _ _ _ _ =>
  W.bind (A := bufs t) (((body_runs (A := bufs t) (c := c) (grid0.coords t)).all _).mono fun _ _ _ => W.ret ⟨trivial, trivial, trivial, trivial, trivial, trivial⟩)

/-- Every run of the call ends, its arguments as launched and every semaphore at zero. -/
theorem frame_run : θ_run (defs (F := F)) (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun _ h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c)⟩, h.2⟩)
    (run_main m ρ (fun _ _ _ _ => True) (fun _ _ _ => True) (fun _ _ => trivial) (point_any m))

end Cert.Mla
-- ==== Proof.Bits.Frames.lean ====
/-
  The call ends with its arguments as they were launched.
-/
module

public import proofs.«01_k».proof.Proof.Bits.Launch
public import proofs.«01_k».proof.Proof.Bits.Safe

@[expose] public section

noncomputable section

namespace Cert.MlaBits

open Cert.Kernel Cert.Kernel.Facts Cert.Kernel.Gen
open Idealize.ShloMosaic Idealize.ShloMosaic.TcCoe
open Idealize.SL Idealize.SL.RA Idealize.SL.BI Idealize.SL.Sem
open Idealize.ShloMosaic.Pipeline (RDat Cfg Window)

variable {F : FTy → Type} [FloatOps F]
variable (m : (ℓ : Loc nD τ sig) → Buf (Elt F) ℓ) (ρ : Dev nD → PrngReg)

theorem point_any (c : Dev nD) : Point m (fun _ _ _ _ => True) (fun _ _ _ => True) c := fun t _ _ _ _ _ _ _ _ _ =>
  W.bind (A := bufs t) (((body_runs (A := bufs t) (c := c) (grid0.coords t)).all _).mono fun _ _ _ => W.ret ⟨trivial, trivial, trivial, trivial, trivial, trivial⟩)

/-- Every run of the call ends, its arguments as launched and every semaphore at zero. -/
theorem frame_run : θ_run (defs (F := F)) (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun _ h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c)⟩, h.2⟩)
    (run_main m ρ (fun _ _ _ _ => True) (fun _ _ _ => True) (fun _ _ => trivial) (point_any m))

end Cert.MlaBits
-- ==== Proof.Spec.lean ====
/-
  What one grid point of the kernel computes, head by head, as expressions of the printed operations.
-/
module

public import proofs.«01_k».proof.Proof.Rules

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem
open Idealize.ShloMosaic.ValueIdx

variable {F : FTy → Type} [FloatOps F] [Named F]

/-- A head's scores over a block of keys, in powers of two. -/
abbrev scoreE (kc : Vec F S1x2048x128 .bf16) (qc : Vec F S1x512x128 .bf16) : FVec F S2048x512 .f32 :=
  mulf (matmul dot_S2048x128_S512x128_S2048x512_1_1_0_0_n_n none (shapeCast S2048x128 kc shapeCasts_S1x2048x128_S2048x128)
    (shapeCast S512x128 qc shapeCasts_S1x512x128_S512x128) (constant S2048x512 .f32 0x00000000#32))
    (broadcast S2048x512 (Named.named κ "log2e" 0x3FB8AA3B#32))

/-- The same over the first sixteen keys of the block. -/
abbrev probeE (kc : Vec F S1x16x128 .bf16) (qc : Vec F S1x512x128 .bf16) : FVec F S16x512 .f32 :=
  mulf (matmul dot_S16x128_S512x128_S16x512_1_1_0_0_n_n none (shapeCast S16x128 kc shapeCasts_S1x16x128_S16x128)
    (shapeCast S512x128 qc shapeCasts_S1x512x128_S512x128) (constant S16x512 .f32 0x00000000#32))
    (broadcast S16x512 (Named.named κ "log2e" 0x3FB8AA3B#32))

/-- The weights of a block of keys against the reference row `mr`. -/
abbrev weightE (s : FVec F S2048x512 .f32) (mr : Vec F S1x512 .f32) : FVec F S2048x512 .bf16 :=
  truncf .bf16 (exp2 (subf s (broadcastTo S2048x512 mr broadcasts_S1x512_S2048x512))) bitsLt_bf16_f32

/-- What a block of keys adds to a head's accumulator. -/
abbrev tmpE (s : FVec F S2048x512 .f32) (mr : Vec F S1x512 .f32) (v : Vec F S1x80x2048 .bf16) : FVec F S80x512 .f32 :=
  shapeCast S80x512 (matmul dot_S80x2048_S2048x512_S80x512_1_0_0_1_n_n none (shapeCast S80x2048 v shapeCasts_S1x80x2048_S80x2048)
    (weightE s mr) (constant S80x512 .f32 0x00000000#32)) shapeCasts_S80x512_S80x512

/-- A head's accumulator after a block of keys, its reference row replaced by `mn`. -/
abbrev accE (mr mn : Vec F S1x512 .f32) (a : Vec F S80x512 .f32) (v : Vec F S1x80x2048 .bf16) (w : Vec F S1x2048x512 .bf16) : FVec F S80x512 .f32 :=
  shapeCast S80x512 (addf (mulf (broadcastTo S80x512 (exp2 (subf mr mn)) broadcasts_S1x512_S80x512) a)
    (matmul dot_S80x2048_S2048x512_S80x512_1_0_0_1_n_n none (shapeCast S80x2048 v shapeCasts_S1x80x2048_S80x2048)
      (shapeCast S2048x512 w shapeCasts_S1x2048x512_S2048x512) (constant S80x512 .f32 0x00000000#32))) shapeCasts_S80x512_S80x512

/-- Sixty-four rows of the weights, as one step computes them. -/
abbrev chunkE (X : Vec F S1x64x512 .f32) (mn : Vec F S1x512 .f32) : FVec F S1x64x512 .bf16 :=
  shapeCast S1x64x512 (truncf .bf16 (exp2 (subf (shapeCast S64x512 X shapeCasts_S1x64x512_S64x512)
    (broadcastTo S64x512 mn broadcasts_S1x512_S64x512))) bitsLt_bf16_f32) shapeCasts_S64x512_S1x64x512

/-- All the weights, row by row. -/
def expE (X : Vec F S1x2048x512 .f32) (mn : Vec F S1x512 .f32) : Vec F S1x2048x512 .bf16 :=
  fun x => FloatOps.truncf .bf16 bitsLt_bf16_f32 (FloatOps.exp2 (FloatOps.subf (X x) (mn (ix2 0 (x 2)))))

/-- Head `j`'s 128 columns. -/
abbrev hcols {R : ℕ} {V : Type} (j : Fin 8) (X : (⟨3, ![1, R, 1024]⟩ : Shape).Idx → V) : (⟨3, ![1, R, 128]⟩ : Shape).Idx → V :=
  cols 128 (128 * j.val) (by omega) X

/-- Head `j`'s 80 rows. -/
abbrev hrows {C : ℕ} {V : Type} (j : Fin 8) (X : (⟨3, ![1, 640, C]⟩ : Shape).Idx → V) : (⟨3, ![1, 80, C]⟩ : Shape).Idx → V :=
  sub3 80 (80 * j.val) (by omega) X

/-- Head `j`'s scores. -/
abbrev sc (q : Vec F S1x512x1024 .bf16) (kk : Vec F S1x2048x1024 .bf16) (j : Fin 8) : FVec F S2048x512 .f32 := scoreE (hcols j kk) (hcols j q)

abbrev sc3 (q : Vec F S1x512x1024 .bf16) (kk : Vec F S1x2048x1024 .bf16) (j : Fin 8) : Vec F S1x2048x512 .f32 :=
  shapeCast S1x2048x512 (sc q kk j) shapeCasts_S2048x512_S1x2048x512

/-- Every entry satisfies `P`. -/
def Good {s : Shape} (P : F .f32 → Prop) (X : FVec F s .f32) : Prop := ∀ i, P (X i)

/-- `P` is kept by what makes a reference row out of scores. -/
structure Keeps (P : F .f32 → Prop) : Prop where
  max : ∀ a b, P a → P b → P (FloatOps.maximumf a b)
  red : ∀ v : FVec F S8x512 .f32, Good P v → Good P (multiReduction .maximumf [0] S512 v 0xFF800000#32 reduces_S8x512_S512 (.inl rfl) rfl)
  red16 : ∀ v : FVec F S16x512 .f32, Good P v → Good P (multiReduction .maximumf [0] S512 v 0xFF800000#32 reduces_S16x512_S512 (.inl rfl) rfl)

variable {P : F .f32 → Prop}

theorem good_max (K : Keeps P) {s : Shape} {a b : FVec F s .f32} (ha : Good P a) (hb : Good P b) : Good P (maximumf a b) :=
  fun i => K.max _ _ (ha i) (hb i)

theorem good_cast {s t : Shape} {a : FVec F s .f32} {h : s.ShapeCasts t} (ha : Good P a) : Good P (shapeCast t a h) := fun _ => ha _

theorem good_sub3 {R C b r : ℕ} {h : r + b ≤ R} {X : Vec F ⟨3, ![1, R, C]⟩ .f32} (hX : Good P (s := ⟨3, ![1, R, C]⟩) X) :
    Good P (s := ⟨3, ![1, b, C]⟩) (sub3 b r h X) := fun _ => hX _

/-- What holds of the accumulators and reference rows after the heads below `h` have been renewed, the scores of the `a` heads from `h` stored. -/
structure RenI (P : F .f32 → Prop) (q : Vec F S1x512x1024 .bf16) (kk : Vec F S1x2048x1024 .bf16) (vt : Vec F S1x640x2048 .bf16)
    (m0 : Fin 8 → Vec F S1x512 .f32) (acc0 : Fin 8 → Vec F S80x512 .f32) (h a : ℕ)
    (m : Fin 8 → Vec F S1x512 .f32) (acc : Fin 8 → Vec F S80x512 .f32) (st : Fin 3 → Vec F S1x2048x512 .f32) : Prop where
  done : ∀ j : Fin 8, j.val < h → Good P (s := S1x512) (m j) ∧ acc j = accE (m0 j) (m j) (acc0 j) (hrows j vt) (expE (sc3 q kk j) (m j))
  rest : ∀ j : Fin 8, h ≤ j.val → m j = m0 j ∧ acc j = acc0 j
  score : ∀ j : Fin 8, h ≤ j.val → j.val < h + a → st ⟨j.val % 3, Nat.mod_lt _ (by decide)⟩ = sc3 q kk j

end Cert.Mla
-- ==== Proof.Renew.lean ====
/-
  Renewing the reference rows, head by head.
-/
module

public import proofs.«01_k».proof.Proof.Spec
public import Idealize.ShloMosaic.Lib.ValueLayout

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem
open Idealize.ShloMosaic.ValueIdx

variable {F : FTy → Type} [FloatOps F] [Named F] {A : Bufs} {c : Dev nD} {α : Type}

/-- One step's weights are the rows it covers of all the weights. -/
theorem chunk_eq {r : ℕ} (hb : r + 64 ≤ 2048) (X : Vec F S1x2048x512 .f32) (mn : Vec F S1x512 .f32) :
    chunkE (sub3 64 r hb X) mn = sub3 64 r hb (expE X mn) := by
  funext x
  have e1 : chunkE (sub3 64 r hb X) mn x = FloatOps.truncf .bf16 bitsLt_bf16_f32 (FloatOps.exp2 (FloatOps.subf
      (shapeCast S64x512 (sub3 64 r hb X) shapeCasts_S1x64x512_S64x512 (fun a => x a.succ))
      (broadcastTo S64x512 mn broadcasts_S1x512_S64x512 (fun a => x a.succ)))) :=
    shapeCast_addUnit_apply ![64, 512] _ _ x
  have e2 : shapeCast S64x512 (sub3 64 r hb X) shapeCasts_S1x64x512_S64x512 (fun a => x a.succ) = sub3 64 r hb X x := by
    refine (shapeCast_dropUnit_apply ![64, 512] _ _ _).trans (congrArg _ ?_)
    funext d
    match d with
    | ⟨0, _⟩ => exact Fin.ext (by have := (x 0).isLt; change (x 0).val < 1 at this; show 0 = (x 0).val; omega)
    | ⟨1, _⟩ => rfl
    | ⟨2, _⟩ => rfl
  have e3 : broadcastTo S64x512 mn broadcasts_S1x512_S64x512 (fun a => x a.succ) = mn (ix2 0 (x 2)) := by
    refine (congrArg _ (eq_ix2 _)).trans (broadcastTo_1b_ab_apply mn _ _ _)
  rw [e1, e2, e3]
  rfl

variable {P : F .f32 → Prop} {q : Vec F S1x512x1024 .bf16} {kk : Vec F S1x2048x1024 .bf16} {vt : Vec F S1x640x2048 .bf16} {gc o : Vec F S1x512x512 .bf16}
  {m0 m : Fin 8 → Vec F S1x512 .f32} {acc0 acc tmp : Fin 8 → Vec F S80x512 .f32} {st : Fin 3 → Vec F S1x2048x512 .f32}
  {p : Vec F S3x2048x512 .bf16} {fl : Vec F S1 .i32} {Q : α → St F → Prop}

/-- Before the first head, nothing is stored. -/
theorem renI_zero : RenI P q kk vt m acc 0 0 m acc st where
  done j hj := absurd hj (Nat.not_lt_zero _)
  rest _ _ := ⟨rfl, rfl⟩
  score j _ hj := absurd hj (by omega)

/-- The next head's scores stored. -/
theorem renI_ahead {h a : ℕ} (ha : a < 3) (hh : h + a < 8) (H : RenI P q kk vt m0 acc0 h a m acc st) {w : Vec F S1x2048x512 .f32} (hw : w = sc3 q kk ⟨h + a, hh⟩) :
    RenI P q kk vt m0 acc0 h (a + 1) m acc (upd st ⟨(h + a) % 3, Nat.mod_lt _ (by decide)⟩ w) where
  done := H.done
  rest := H.rest
  score j h1 h2 := by
    by_cases e : j.val = h + a
    · obtain rfl : j = ⟨h + a, hh⟩ := Fin.ext e
      exact (upd_self ..).trans hw
    · rw [upd_ne _ _ (fun e' => by have := congrArg Fin.val e'; simp at this; omega)]
      exact H.score j h1 (by omega)

/-- Renewing head `h`. -/
theorem renI_next {h : ℕ} (hh : h < 8) (H : RenI P q kk vt m0 acc0 h 3 m acc st) {mn mn' : Vec F S1x512 .f32} {w : Vec F S80x512 .f32}
    (hm : mn' = mn) (hmn : Good P (s := S1x512) mn)
    (hw : w = accE (m ⟨h, hh⟩) mn (acc ⟨h, hh⟩) (hrows ⟨h, hh⟩ vt) (expE (st ⟨h % 3, Nat.mod_lt _ (by decide)⟩) mn)) :
    RenI P q kk vt m0 acc0 (h + 1) 2 (upd m ⟨h, hh⟩ mn') (upd acc ⟨h, hh⟩ w) st where
  done j hj := by
    subst hm hw
    by_cases e : j.val = h
    · obtain rfl : j = ⟨h, hh⟩ := Fin.ext e
      rw [upd_self, upd_self, H.score ⟨h, hh⟩ le_rfl (by show h < h + 3; omega), (H.rest ⟨h, hh⟩ le_rfl).1, (H.rest ⟨h, hh⟩ le_rfl).2]
      exact ⟨hmn, rfl⟩
    · rw [upd_ne _ _ (fun e' => e (congrArg Fin.val e')), upd_ne _ _ (fun e' => e (congrArg Fin.val e'))]
      exact H.done j (by omega)
  rest j hj := by
    have e : j ≠ ⟨h, hh⟩ := fun e' => by have := congrArg Fin.val e'; simp at this; omega
    rw [upd_ne _ _ e, upd_ne _ _ e]
    exact H.rest j (by omega)
  score j h1 h2 := H.score j (by omega) (by omega)

/-- Of the last heads all scores are stored. -/
theorem RenI.full {h : ℕ} {a : ℕ} (ha : a = 3 ∨ a = 2 ∧ 6 ≤ h) (H : RenI P q kk vt m0 acc0 h a m acc st) : RenI P q kk vt m0 acc0 h 3 m acc st := by
  rcases ha with rfl | ⟨rfl, h6⟩
  · exact H
  · exact ⟨H.done, H.rest, fun j h1 _ => H.score j h1 (by have := j.isLt; omega)⟩

/-- From here on, only what `RenI` says of the rows, the accumulators and the slots. -/
theorem W.next {h a : ℕ} {pr : Pr F α} (H : RenI P q kk vt m0 acc0 h a m acc st)
    (hk : ∀ m acc st, RenI P q kk vt m0 acc0 h a m acc st → W A c ⟨q, kk, vt, gc, o, m, acc, st, p, tmp, fl⟩ pr Q) :
    W A c ⟨q, kk, vt, gc, o, m, acc, st, p, tmp, fl⟩ pr Q := hk _ _ _ H

/-- The rows and the slots a head is renewed from are good. -/
theorem RenI.good_m {h a : ℕ} (H : RenI P q kk vt m0 acc0 h a m acc st) (hh : h < 8) (h0 : ∀ j, Good P (s := S1x512) (m0 j)) :
    Good P (s := S1x512) (m ⟨h, hh⟩) := (H.rest ⟨h, hh⟩ le_rfl).1 ▸ h0 _

theorem RenI.good_st {h a : ℕ} (ha : 0 < a) (H : RenI P q kk vt m0 acc0 h a m acc st) (hh : h < 8) (hs : ∀ j, Good P (sc q kk j)) :
    Good P (s := S1x2048x512) (st ⟨h % 3, Nat.mod_lt _ (by decide)⟩) :=
  (H.score ⟨h, hh⟩ le_rfl (by show h < h + a; omega)) ▸ good_cast (hs _)

end Cert.Mla
-- ==== Proof.Begin.lean ====
/-
  The start of a grid point, and what the streaming step stores.
-/
module

public import proofs.«01_k».proof.Proof.Renew
public import Idealize.ShloMosaic.Lib.Pointwise

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem
open Idealize.ShloMosaic.ValueIdx

variable {F : FTy → Type} [FloatOps F] [Named F] {A : Bufs} {c : Dev nD} {α : Type}

variable {P : F .f32 → Prop} {q : Vec F S1x512x1024 .bf16} {kk : Vec F S1x2048x1024 .bf16} {vt : Vec F S1x640x2048 .bf16} {gc o : Vec F S1x512x512 .bf16}
  {m0 m : Fin 8 → Vec F S1x512 .f32} {acc0 acc tmp : Fin 8 → Vec F S80x512 .f32} {st : Fin 3 → Vec F S1x2048x512 .f32}
  {p : Vec F S3x2048x512 .bf16} {fl : Vec F S1 .i32} {Q : α → St F → Prop}

/-- The first sixteen keys' scores of head `j`. -/
abbrev probe (q : Vec F S1x512x1024 .bf16) (kk : Vec F S1x2048x1024 .bf16) (j : Fin 8) : FVec F S16x512 .f32 :=
  probeE (sub3 16 0 (by decide) (hcols j kk)) (hcols j q)

/-- The rows and accumulators a grid point starts from: at the first block of keys new ones, good rows and zeros; later those it finds. -/
def Begun (P : F .f32 → Prop) (i : grid0.Coords) (m : Fin 8 → Vec F S1x512 .f32) (acc : Fin 8 → Vec F S80x512 .f32)
    (m0 : Fin 8 → Vec F S1x512 .f32) (acc0 : Fin 8 → Vec F S80x512 .f32) : Prop :=
  (∀ j, Good P (s := S1x512) (m0 j)) ∧
    (((i 2).val = 0 ∧ ∀ j x, acc0 j x = Scalar.ofBits .f32 0x00000000#32) ∨ ((i 2).val ≠ 0 ∧ m0 = m ∧ acc0 = acc))

/-- The first `h` heads' products of the streaming step are stored. -/
def TmpI (q : Vec F S1x512x1024 .bf16) (kk : Vec F S1x2048x1024 .bf16) (vt : Vec F S1x640x2048 .bf16)
    (m : Fin 8 → Vec F S1x512 .f32) (h : ℕ) (tmp : Fin 8 → Vec F S80x512 .f32) : Prop :=
  ∀ j : Fin 8, j.val < h → tmp j = tmpE (sc q kk j) (m j) (hrows j vt)

theorem tmpI_zero : TmpI q kk vt m 0 tmp := fun _ h => absurd h (Nat.not_lt_zero _)

theorem tmpI_next {h : ℕ} (hh : h < 8) (H : TmpI q kk vt m h tmp) {w : Vec F S80x512 .f32} (hw : w = tmpE (sc q kk ⟨h, hh⟩) (m ⟨h, hh⟩) (hrows ⟨h, hh⟩ vt)) :
    TmpI q kk vt m (h + 1) (upd tmp ⟨h, hh⟩ w) := fun j hj => by
  by_cases e : j.val = h
  · obtain rfl : j = ⟨h, hh⟩ := Fin.ext e
    exact (upd_self ..).trans hw
  · rw [upd_ne _ _ (fun e' => e (congrArg Fin.val e'))]
    exact H j (by omega)

/-- From here on, only what `TmpI` says of the products. -/
theorem W.prods {h : ℕ} {pr : Pr F α} (H : TmpI q kk vt m h tmp)
    (hk : ∀ tmp, TmpI q kk vt m h tmp → W A c ⟨q, kk, vt, gc, o, m, acc, st, p, tmp, fl⟩ pr Q) :
    W A c ⟨q, kk, vt, gc, o, m, acc, st, p, tmp, fl⟩ pr Q := hk _ H

/-- From here on, only what `Begun` says of the rows and accumulators. -/
theorem W.begun {i : grid0.Coords} {m1 : Fin 8 → Vec F S1x512 .f32} {acc1 : Fin 8 → Vec F S80x512 .f32} {pr : Pr F α} (H : Begun P i m acc m1 acc1)
    (hk : ∀ m1 acc1, Begun P i m acc m1 acc1 → W A c ⟨q, kk, vt, gc, o, m1, acc1, st, p, tmp, fl⟩ pr Q) :
    W A c ⟨q, kk, vt, gc, o, m1, acc1, st, p, tmp, fl⟩ pr Q := hk _ _ H

theorem W.dite {P : Prop} [Decidable P] {σ : St F} {p : P → Pr F α} {p' : ¬ P → Pr F α} (h : ∀ e, W A c σ (p e) Q) (h' : ∀ e, W A c σ (p' e) Q) :
    W A c σ (if e : P then p e else p' e) Q := by
  split
  · exact h _
  · exact h' _

theorem good_rows {X : Vec F S8x512 .f32} (h : Good P (s := S8x512) X) (j : Fin 8) : Good P (s := S1x512) (ungl 8 1 rfl X j) := fun _ => h _

/-- The printed test of a word against zero. -/
theorem eq_zero_iff (v : BitVec 32) : Scalar.cmpi .ne (Scalar.extui (Scalar.cmpi .eq v 0#32) : BitVec 32) 0#32 = 1#1 ↔ v = 0#32 := by
  by_cases h : v = 0#32
  · subst h; exact ⟨fun _ => rfl, fun _ => by decide⟩
  · have e : Scalar.cmpi .eq v 0#32 = 0#1 := by simp only [Scalar.cmpi, IntOp.cmpi, beq_eq_false_iff_ne.mpr h, bne_iff_ne.mpr h]; rfl
    rw [e]
    exact ⟨fun h' => absurd h' (by decide), fun h' => absurd h' h⟩

theorem ne_zero_iff (v : BitVec 32) : Scalar.cmpi .ne (Scalar.extui (Scalar.cmpi .ne v 0#32) : BitVec 32) 0#32 = 1#1 ↔ v ≠ 0#32 := by
  by_cases h : v = 0#32
  · subst h; exact ⟨fun h' => absurd h' (by decide), fun h' => absurd rfl h'⟩
  · have e : Scalar.cmpi .ne v 0#32 = 1#1 := by simp only [Scalar.cmpi, IntOp.cmpi, beq_eq_false_iff_ne.mpr h, bne_iff_ne.mpr h]; rfl
    rw [e]
    exact ⟨fun _ => h, fun _ => by decide⟩

theorem kt_lt (i : grid0.Coords) : (i 2).val < 4 := (i 2).isLt

theorem first_iff (i : grid0.Coords) : BitVec.ofNat 32 (i 2).val = 0#32 ↔ (i 2).val = 0 := by
  have := kt_lt i
  generalize (i 2).val = n at *
  interval_cases n <;> decide

theorem last_iff (i : grid0.Coords) : k0_cond4 i = 1#1 ↔ (i 2).val = 3 := by
  have := kt_lt i
  unfold k0_cond4
  generalize (i 2).val = n at *
  interval_cases n <;> decide

set_option maxHeartbeats 0 in
set_option maxRecDepth 100000 in
/-- The start of a grid point: the reference rows, and the first head's products. -/
theorem begin_value (K : Keeps P) (hp : ∀ j, Good P (probe q kk j)) (i : grid0.Coords) (hm : (i 2).val ≠ 0 → ∀ j, Good P (s := S1x512) (m j)) :
    W (F := F) A c ⟨q, kk, vt, gc, o, m, acc, st, p, tmp, fl⟩
      (k0_part289 i A.q A.hq A.k A.hk A.vt A.hvt A.gc A.hgc A.o A.ho A.m A.hm A.acc A.hacc A.st A.hst A.p A.hp A.tmp A.htmp A.flag A.hflag) fun v σ => ∃ m0 acc0 tmp, σ = ⟨q, kk, vt, gc, o, m0, acc0, st, p, tmp, fl⟩ ∧ Begun P i m acc m0 acc0 ∧ TmpI q kk vt m0 1 tmp ∧ v.2 = sc q kk 1 := by
  refine W.dite (fun e => ?_) (fun e => ?_)
  · have e0 : (i 2).val = 0 := (first_iff i).mp ((eq_zero_iff _).mp e)
    iterate 16
      change W _ _ _ (.op _ _) _
      first
        | refine W.ld_k16 (by decide) ?_
        | refine W.ld_q (by decide) ?_
    change W _ _ _ (.op _ _) _
    refine W.ld_m_whole ?_
    change W _ _ _ (.op _ _) _
    refine W.st_m_whole ?_
    change W _ _ _ (.op _ _) _
    refine W.ld_acc_whole ?_
    change W _ _ _ (.op _ _) _
    refine W.st_acc_whole (W.begun (P := P) (i := i) (m := m) (acc := acc) ⟨good_rows (good_cast (fun x => concatenate_forall _ _ _ _ ?_ x)), .inl ⟨e0, fun _ _ => rfl⟩⟩ fun m1 acc1 B => ?_)
    · have g := fun j => K.red16 _ (hp j)
      intro pc hpc
      simp only [List.mem_cons, List.not_mem_nil, or_false] at hpc
      rcases hpc with rfl | rfl | rfl | rfl | rfl | rfl | rfl | rfl
      exacts [fun x => good_cast (g 0) x, fun x => good_cast (g 1) x, fun x => good_cast (g 2) x, fun x => good_cast (g 3) x,
        fun x => good_cast (g 4) x, fun x => good_cast (g 5) x, fun x => good_cast (g 6) x, fun x => good_cast (g 7) x]
    iterate 5
      change W _ _ _ (.op _ _) _
      first
        | refine W.ld_k (by decide) ?_
        | refine W.ld_q (by decide) ?_
        | refine W.ld_m (by decide) (by decide) ?_
        | refine W.ld_vt (by decide) ?_
        | refine W.ld_tmp (by decide) (by decide) ?_
    change W _ _ _ (.op _ _) _
    refine W.st_tmp (by decide) (by decide) (W.prods (tmpI_next (by decide) tmpI_zero rfl) fun tmp HT => ?_)
    iterate 2
      change W _ _ _ (.op _ _) _
      first
        | refine W.ld_k (by decide) ?_
        | refine W.ld_q (by decide) ?_
    exact W.ret ⟨_, _, _, rfl, B, HT, rfl⟩
  · have e0 : (i 2).val ≠ 0 := fun h => e ((eq_zero_iff _).mpr ((first_iff i).mpr h))
    refine W.begun (P := P) (i := i) (m := m) (acc := acc) ⟨hm e0, .inr ⟨e0, rfl, rfl⟩⟩ fun m1 acc1 B => ?_
    iterate 5
      change W _ _ _ (.op _ _) _
      first
        | refine W.ld_k (by decide) ?_
        | refine W.ld_q (by decide) ?_
        | refine W.ld_m (by decide) (by decide) ?_
        | refine W.ld_vt (by decide) ?_
        | refine W.ld_tmp (by decide) (by decide) ?_
    change W _ _ _ (.op _ _) _
    refine W.st_tmp (by decide) (by decide) (W.prods (tmpI_next (by decide) tmpI_zero rfl) fun tmp HT => ?_)
    iterate 2
      change W _ _ _ (.op _ _) _
      first
        | refine W.ld_k (by decide) ?_
        | refine W.ld_q (by decide) ?_
    exact W.ret ⟨_, _, _, rfl, B, HT, rfl⟩

end Cert.Mla
-- ==== Proof.Renew1.lean ====
/-
  The renewing step: heads one and two.
-/
module

public import proofs.«01_k».proof.Proof.Renew

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem
open Idealize.ShloMosaic.ValueIdx

variable {F : FTy → Type} [FloatOps F] [Named F] {A : Bufs} {c : Dev nD} {α : Type}

variable {P : F .f32 → Prop} {q : Vec F S1x512x1024 .bf16} {kk : Vec F S1x2048x1024 .bf16} {vt : Vec F S1x640x2048 .bf16} {gc o : Vec F S1x512x512 .bf16}
  {m0 m : Fin 8 → Vec F S1x512 .f32} {acc0 acc tmp : Fin 8 → Vec F S80x512 .f32} {st : Fin 3 → Vec F S1x2048x512 .f32}
  {p : Vec F S3x2048x512 .bf16} {fl : Vec F S1 .i32} {Q : α → St F → Prop}

set_option maxHeartbeats 0 in
/-- The renewing step up to the second head's maxima. -/
theorem part284_value (K : Keeps P) (hs : ∀ j, Good P (sc q kk j)) (h0 : ∀ j, Good P (s := S1x512) (m0 j)) (i : grid0.Coords) (H : RenI P q kk vt m0 acc0 0 0 m acc st) : W (F := F) A c ⟨q, kk, vt, gc, o, m, acc, st, p, tmp, fl⟩
    (k0_part284 i A.q A.hq A.k A.hk A.vt A.hvt A.gc A.hgc A.o A.ho A.m A.hm A.acc A.hacc A.st A.hst A.p A.hp A.tmp A.htmp A.flag A.hflag) fun v σ => ∃ m acc st p, σ = ⟨q, kk, vt, gc, o, m, acc, st, p, tmp, fl⟩ ∧ RenI P q kk vt m0 acc0 1 3 m acc st ∧ Good P (s := S8x512) v.1 ∧ Good P (s := S8x512) v.2.1 ∧ Good P (s := S8x512) v.2.2.1 ∧ Good P (s := S8x512) v.2.2.2 := by
  iterate 614
    change W _ _ _ (.op _ _) _
    first
      | refine W.ld_st8 (by decide) (by decide) ?_
      | refine W.ld_st64 (by decide) (by decide) ?_
      | (refine W.st_p _ hF rfl (by decide) (chunk_eq _ _ _) fun p' hF' => ?_
         clear hF
         rename' p' => p, hF' => hF)
      | (refine W.st_p _ (filled_zero _ _ _) rfl (by decide) (chunk_eq _ _ _) fun p' hF' => ?_
         rename' p' => p, hF' => hF)
      | refine W.ld_p hF ?_
      | refine W.ld_p_any fun _ => ?_
      | refine W.ld_q (by decide) ?_
      | refine W.ld_k (by decide) ?_
      | refine W.ld_vt (by decide) ?_
      | refine W.ld_st (by decide) ?_
      | (refine W.st_st (by decide) (W.next (renI_ahead (by decide) (by decide) H rfl) fun m' acc' st' H' => ?_)
         clear H
         rename' m' => m, acc' => acc, st' => st, H' => H)
      | refine W.ld_m (by decide) (by decide) ?_
      | refine W.ld_acc (by decide) (by decide) ?_
      | refine W.st_acc (by decide) (by decide) ?_
      | (refine W.st_m (by decide) (by decide) (W.next (renI_next (by decide) (H.full (by decide)) (shapeCast_self _ _) ?_ rfl) fun m' acc' st' H' => ?_)
         · have hgm := H.good_m (by decide) h0
           have hgs := H.good_st (by decide) (by decide) hs
           repeat' first
             | assumption | exact good_cast (good_sub3 hgs) | exact good_sub3 hgs | (dsimp only; exact good_sub3 hgs) | apply good_max K | apply good_cast | apply K.red
         clear hF H
         rename' m' => m, acc' => acc, st' => st, H' => H)
  have hgs := H.good_st (by decide) (by decide) hs
  refine W.ret ⟨m, acc, st, p, rfl, H, ?_, ?_, ?_, ?_⟩
  all_goals
    repeat' first
      | assumption | exact good_cast (good_sub3 hgs) | exact good_sub3 hgs | (dsimp only; exact good_sub3 hgs) | apply good_max K | apply good_cast | apply K.red

end Cert.Mla
-- ==== Proof.Renew2.lean ====
/-
  The renewing step: heads two to four.
-/
module

public import proofs.«01_k».proof.Proof.Renew

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem
open Idealize.ShloMosaic.ValueIdx

variable {F : FTy → Type} [FloatOps F] [Named F] {A : Bufs} {c : Dev nD} {α : Type}

variable {P : F .f32 → Prop} {q : Vec F S1x512x1024 .bf16} {kk : Vec F S1x2048x1024 .bf16} {vt : Vec F S1x640x2048 .bf16} {gc o : Vec F S1x512x512 .bf16}
  {m0 m : Fin 8 → Vec F S1x512 .f32} {acc0 acc tmp : Fin 8 → Vec F S80x512 .f32} {st : Fin 3 → Vec F S1x2048x512 .f32}
  {p : Vec F S3x2048x512 .bf16} {fl : Vec F S1 .i32} {Q : α → St F → Prop}

set_option maxHeartbeats 0 in
/-- Up to the fourth head's. -/
theorem part285_value (K : Keeps P) (hs : ∀ j, Good P (sc q kk j)) (h0 : ∀ j, Good P (s := S1x512) (m0 j)) (i : grid0.Coords) (v1995 : FVec F S8x512 .f32) (v1998 : FVec F S8x512 .f32) (v2001 : FVec F S8x512 .f32) (v2004 : FVec F S8x512 .f32) (g1995 : Good P (s := S8x512) v1995) (g1998 : Good P (s := S8x512) v1998) (g2001 : Good P (s := S8x512) v2001) (g2004 : Good P (s := S8x512) v2004) (H : RenI P q kk vt m0 acc0 1 3 m acc st) : W (F := F) A c ⟨q, kk, vt, gc, o, m, acc, st, p, tmp, fl⟩
    (k0_part285 i A.q A.hq A.k A.hk A.vt A.hvt A.gc A.hgc A.o A.ho A.m A.hm A.acc A.hacc A.st A.hst A.p A.hp A.tmp A.htmp A.flag A.hflag v1995 v1998 v2001 v2004) fun v σ => ∃ m acc st p, σ = ⟨q, kk, vt, gc, o, m, acc, st, p, tmp, fl⟩ ∧ RenI P q kk vt m0 acc0 3 3 m acc st ∧ Good P (s := S8x512) v.1 ∧ Good P (s := S8x512) v.2.1 ∧ Good P (s := S8x512) v.2.2.1 ∧ Good P (s := S8x512) v.2.2.2.1 ∧ Good P (s := S1x8x512) v.2.2.2.2 := by
  iterate 626
    change W _ _ _ (.op _ _) _
    first
      | refine W.ld_st8 (by decide) (by decide) ?_
      | refine W.ld_st64 (by decide) (by decide) ?_
      | (refine W.st_p _ hF rfl (by decide) (chunk_eq _ _ _) fun p' hF' => ?_
         clear hF
         rename' p' => p, hF' => hF)
      | (refine W.st_p _ (filled_zero _ _ _) rfl (by decide) (chunk_eq _ _ _) fun p' hF' => ?_
         rename' p' => p, hF' => hF)
      | refine W.ld_p hF ?_
      | refine W.ld_p_any fun _ => ?_
      | refine W.ld_q (by decide) ?_
      | refine W.ld_k (by decide) ?_
      | refine W.ld_vt (by decide) ?_
      | refine W.ld_st (by decide) ?_
      | (refine W.st_st (by decide) (W.next (renI_ahead (by decide) (by decide) H rfl) fun m' acc' st' H' => ?_)
         clear H
         rename' m' => m, acc' => acc, st' => st, H' => H)
      | refine W.ld_m (by decide) (by decide) ?_
      | refine W.ld_acc (by decide) (by decide) ?_
      | refine W.st_acc (by decide) (by decide) ?_
      | (refine W.st_m (by decide) (by decide) (W.next (renI_next (by decide) (H.full (by decide)) (shapeCast_self _ _) ?_ rfl) fun m' acc' st' H' => ?_)
         · have hgm := H.good_m (by decide) h0
           have hgs := H.good_st (by decide) (by decide) hs
           repeat' first
             | assumption | exact good_cast (good_sub3 hgs) | exact good_sub3 hgs | (dsimp only; exact good_sub3 hgs) | apply good_max K | apply good_cast | apply K.red
         clear hF H
         rename' m' => m, acc' => acc, st' => st, H' => H)
  have hgs := H.good_st (by decide) (by decide) hs
  refine W.ret ⟨m, acc, st, p, rfl, H, ?_, ?_, ?_, ?_, ?_⟩
  all_goals
    repeat' first
      | assumption | exact good_cast (good_sub3 hgs) | exact good_sub3 hgs | (dsimp only; exact good_sub3 hgs) | apply good_max K | apply good_cast | apply K.red

end Cert.Mla
-- ==== Proof.Renew3.lean ====
/-
  The renewing step: heads four to six.
-/
module

public import proofs.«01_k».proof.Proof.Renew

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem
open Idealize.ShloMosaic.ValueIdx

variable {F : FTy → Type} [FloatOps F] [Named F] {A : Bufs} {c : Dev nD} {α : Type}

variable {P : F .f32 → Prop} {q : Vec F S1x512x1024 .bf16} {kk : Vec F S1x2048x1024 .bf16} {vt : Vec F S1x640x2048 .bf16} {gc o : Vec F S1x512x512 .bf16}
  {m0 m : Fin 8 → Vec F S1x512 .f32} {acc0 acc tmp : Fin 8 → Vec F S80x512 .f32} {st : Fin 3 → Vec F S1x2048x512 .f32}
  {p : Vec F S3x2048x512 .bf16} {fl : Vec F S1 .i32} {Q : α → St F → Prop}

set_option maxHeartbeats 0 in
/-- Up to the sixth head's. -/
theorem part286_value (K : Keeps P) (hs : ∀ j, Good P (sc q kk j)) (h0 : ∀ j, Good P (s := S1x512) (m0 j)) (i : grid0.Coords) (v3858 : FVec F S8x512 .f32) (v3861 : FVec F S8x512 .f32) (v3864 : FVec F S8x512 .f32) (v3867 : FVec F S8x512 .f32) (v3868 : Vec F S1x8x512 .f32) (g3868 : Good P (s := S1x8x512) v3868) (g3858 : Good P (s := S8x512) v3858) (g3861 : Good P (s := S8x512) v3861) (g3864 : Good P (s := S8x512) v3864) (g3867 : Good P (s := S8x512) v3867) (H : RenI P q kk vt m0 acc0 3 3 m acc st) : W (F := F) A c ⟨q, kk, vt, gc, o, m, acc, st, p, tmp, fl⟩
    (k0_part286 i A.q A.hq A.k A.hk A.vt A.hvt A.gc A.hgc A.o A.ho A.m A.hm A.acc A.hacc A.st A.hst A.p A.hp A.tmp A.htmp A.flag A.hflag v3858 v3861 v3864 v3867 v3868) fun v σ => ∃ m acc st p, σ = ⟨q, kk, vt, gc, o, m, acc, st, p, tmp, fl⟩ ∧ RenI P q kk vt m0 acc0 5 3 m acc st ∧ Good P (s := S8x512) v.1 ∧ Good P (s := S8x512) v.2.1 ∧ Good P (s := S8x512) v.2.2.1 ∧ Good P (s := S8x512) v.2.2.2 := by
  iterate 625
    change W _ _ _ (.op _ _) _
    first
      | refine W.ld_st8 (by decide) (by decide) ?_
      | refine W.ld_st64 (by decide) (by decide) ?_
      | (refine W.st_p _ hF rfl (by decide) (chunk_eq _ _ _) fun p' hF' => ?_
         clear hF
         rename' p' => p, hF' => hF)
      | (refine W.st_p _ (filled_zero _ _ _) rfl (by decide) (chunk_eq _ _ _) fun p' hF' => ?_
         rename' p' => p, hF' => hF)
      | refine W.ld_p hF ?_
      | refine W.ld_p_any fun _ => ?_
      | refine W.ld_q (by decide) ?_
      | refine W.ld_k (by decide) ?_
      | refine W.ld_vt (by decide) ?_
      | refine W.ld_st (by decide) ?_
      | (refine W.st_st (by decide) (W.next (renI_ahead (by decide) (by decide) H rfl) fun m' acc' st' H' => ?_)
         clear H
         rename' m' => m, acc' => acc, st' => st, H' => H)
      | refine W.ld_m (by decide) (by decide) ?_
      | refine W.ld_acc (by decide) (by decide) ?_
      | refine W.st_acc (by decide) (by decide) ?_
      | (refine W.st_m (by decide) (by decide) (W.next (renI_next (by decide) (H.full (by decide)) (shapeCast_self _ _) ?_ rfl) fun m' acc' st' H' => ?_)
         · have hgm := H.good_m (by decide) h0
           have hgs := H.good_st (by decide) (by decide) hs
           repeat' first
             | assumption | exact good_cast (good_sub3 hgs) | exact good_sub3 hgs | (dsimp only; exact good_sub3 hgs) | apply good_max K | apply good_cast | apply K.red
         clear hF H
         rename' m' => m, acc' => acc, st' => st, H' => H)
  have hgs := H.good_st (by decide) (by decide) hs
  refine W.ret ⟨m, acc, st, p, rfl, H, ?_, ?_, ?_, ?_⟩
  all_goals
    repeat' first
      | assumption | exact good_cast (good_sub3 hgs) | exact good_sub3 hgs | (dsimp only; exact good_sub3 hgs) | apply good_max K | apply good_cast | apply K.red

end Cert.Mla
-- ==== Proof.Body.lean ====
/-
  What one grid point does.
-/
module

public import proofs.«01_k».proof.Proof.Gen.KernelIdeal.Skeleton
public import proofs.«01_k».proof.Proof.Begin
public import proofs.«01_k».proof.Proof.Renew1
public import proofs.«01_k».proof.Proof.Renew2
public import proofs.«01_k».proof.Proof.Renew3

@[expose] public section

noncomputable section

namespace Cert.Mla

open Cert.KernelIdeal Cert.KernelIdeal.Facts Cert.KernelIdeal.Shapes1.Facts₀
open Idealize.ShloMosaic Idealize.ShloMosaic.TcCoe
open Idealize.SL Idealize.SL.RA Idealize.SL.BI Idealize.SL.Sem
open Idealize.ShloMosaic.ValueIdx

variable {F : FTy → Type} [FloatOps F] [Named F] {A : Bufs} {c : Dev nD} {α : Type}

variable {P : F .f32 → Prop} {q : Vec F S1x512x1024 .bf16} {kk : Vec F S1x2048x1024 .bf16} {vt : Vec F S1x640x2048 .bf16} {gc o : Vec F S1x512x512 .bf16}
  {m0 m : Fin 8 → Vec F S1x512 .f32} {acc0 acc tmp : Fin 8 → Vec F S80x512 .f32} {st : Fin 3 → Vec F S1x2048x512 .f32}
  {p : Vec F S3x2048x512 .bf16} {fl : Vec F S1 .i32} {Q : α → St F → Prop}

/-- The quotient of a head: its sums over the row that adds the weights. -/
def ratioE (a : Vec F S80x512 .f32) : FVec F S64x512 .f32 :=
  divf (sub2 64 0 (by decide) a) (broadcastTo S64x512 (sub2 1 64 (by decide) a : Vec F S1x512 .f32) broadcasts_S1x512_S64x512)

/-- The output block: the heads' quotients, gated. -/
def outE (gc : Vec F S1x512x512 .bf16) (acc : Fin 8 → Vec F S80x512 .f32) : FVec F S1x512x512 .bf16 :=
  KernelIdeal.Gen.k0_pay1213 (ratioE (acc 0)) (ratioE (acc 1)) (ratioE (acc 2)) (ratioE (acc 3)) (ratioE (acc 4)) (ratioE (acc 5)) (ratioE (acc 6))
    (sub2 64 0 (by decide) (acc 7)) (sub2 1 64 (by decide) (acc 7)) gc

/-- What a grid point makes of the rows and accumulators it starts from: streams under the old rows, or renews them. -/
def Step (P : F .f32 → Prop) (q : Vec F S1x512x1024 .bf16) (kk : Vec F S1x2048x1024 .bf16) (vt : Vec F S1x640x2048 .bf16)
    (m0 : Fin 8 → Vec F S1x512 .f32) (acc0 : Fin 8 → Vec F S80x512 .f32) (m1 : Fin 8 → Vec F S1x512 .f32) (acc1 : Fin 8 → Vec F S80x512 .f32) : Prop :=
  (m1 = m0 ∧ ∀ j, acc1 j = addf (acc0 j) (tmpE (sc q kk j) (m0 j) (hrows j vt))) ∨
    (∀ j, Good P (s := S1x512) (m1 j) ∧ acc1 j = accE (m0 j) (m1 j) (acc0 j) (hrows j vt) (expE (sc3 q kk j) (m1 j)))

/-- A branch whose two sides go on as one: `R` is what the rest needs. -/
theorem W.ite {P : Prop} [Decidable P] {σ : St F} {pr pr' : Pr F α} (R : Prop → St F → Prop) (hk : ∀ σ, R P σ → W A c σ pr' Q) (hn : ¬ P → R P σ)
    (hp : P → (∀ σ, R P σ → W A c σ pr' Q) → W A c σ pr Q) : W A c σ (if P then pr else pr') Q := by
  split
  · exact hp ‹_› hk
  · exact hk _ (hn ‹_›)

/-- The accumulators after the streamed products are added. -/
theorem stream_eq (a t : Fin 8 → Vec F S80x512 .f32) (w : FVec F S640x512 .f32) (hw : w = shapeCast S640x512 (addf (gl 8 80 rfl a : Vec F S640x512 .f32) (gl 8 80 rfl t)) rfl) (j : Fin 8) :
    (ungl 8 80 rfl w : Fin 8 → Vec F S80x512 .f32) j = addf (a j) (t j) := by
  subst hw
  rw [shapeCast_self]
  have ea := congrFun (ungl_gl (h := rfl) (n := 8) (B := 80) a) j
  have et := congrFun (ungl_gl (h := rfl) (n := 8) (B := 80) t) j
  funext y
  exact congrArg₂ _ (congrFun ea y) (congrFun et y)

set_option maxHeartbeats 0 in
set_option maxRecDepth 100000 in
/-- What a grid point does to the blocks and the scratch. -/
theorem body_value (K : Keeps P) (hs : ∀ j, Good P (sc q kk j)) (hp : ∀ j, Good P (probe q kk j)) (i : grid0.Coords) (hm : (i 2).val ≠ 0 → ∀ j, Good P (s := S1x512) (m j)) :
    W (F := F) A c ⟨q, kk, vt, gc, o, m, acc, st, p, tmp, fl⟩ (k0_part294 i A.q A.hq A.k A.hk A.vt A.hvt A.gc A.hgc A.o A.ho A.m A.hm A.acc A.hacc A.st A.hst A.p A.hp A.tmp A.htmp A.flag A.hflag) fun _ σ => ∃ o' m0 acc0 m1 acc1 st p tmp fl, σ = ⟨q, kk, vt, gc, o', m1, acc1, st, p, tmp, fl⟩ ∧
      Begun P i m acc m0 acc0 ∧ Step P q kk vt m0 acc0 m1 acc1 ∧ ((i 2).val = 3 → o' = outE gc acc1) := by
  refine W.bind ((begin_value K hp i hm).mono fun v σ hv => ?_)
  obtain ⟨m1, acc1, tmp1, rfl, B, HT, hv⟩ := hv
  obtain ⟨v1, v2⟩ := v
  obtain rfl : v2 = sc q kk 1 := hv
  clear hm
  iterate 51
    change W _ _ _ (.op _ _) _
    first
      | refine W.ld_k (by decide) ?_
      | refine W.ld_q (by decide) ?_
      | refine W.ld_m (by decide) (by decide) ?_
      | refine W.ld_vt (by decide) ?_
      | refine W.ld_tmp (by decide) (by decide) ?_
      | refine W.ld_tmp1 (by decide) (by decide) ?_
      | refine W.ld_acc64 (by decide) (by decide) ?_
      | refine W.ld_acc1 (by decide) (by decide) ?_
      | refine W.ld_acc_whole ?_
      | refine W.ld_tmp_whole ?_
      | refine W.ld_m_whole ?_
      | refine W.ld_flag ?_
      | refine W.ld_gc ?_
      | refine W.ld_o ?_
      | refine W.st_o ?_
      | refine W.st_flag fun fl => ?_
      | (refine W.st_tmp (by decide) (by decide) (W.prods (tmpI_next (by decide) HT rfl) fun tmp' HT' => ?_)
         clear HT
         rename' tmp' => tmp, HT' => HT)
  refine W.ite (fun C σ => ∃ acc', σ = ⟨q, kk, vt, gc, o, m1, acc', st, p, tmp, fl⟩ ∧ ((¬ C ∧ acc' = acc1) ∨ (C ∧ ∀ j, acc' j = addf (acc1 j) (tmpE (sc q kk j) (m1 j) (hrows j vt))))) (fun σ h => ?_) (fun h => ?_) (fun h hk => ?_)
  · obtain ⟨acc2, rfl, HA⟩ := h
    iterate 1
      change W _ _ _ (.op _ _) _
      first
        | refine W.ld_k (by decide) ?_
        | refine W.ld_q (by decide) ?_
        | refine W.ld_m (by decide) (by decide) ?_
        | refine W.ld_vt (by decide) ?_
        | refine W.ld_tmp (by decide) (by decide) ?_
        | refine W.ld_tmp1 (by decide) (by decide) ?_
        | refine W.ld_acc64 (by decide) (by decide) ?_
        | refine W.ld_acc1 (by decide) (by decide) ?_
        | refine W.ld_acc_whole ?_
        | refine W.ld_tmp_whole ?_
        | refine W.ld_m_whole ?_
        | refine W.ld_flag ?_
        | refine W.ld_gc ?_
        | refine W.ld_o ?_
        | refine W.st_o ?_
        | refine W.st_flag fun fl => ?_
        | (refine W.st_tmp (by decide) (by decide) (W.prods (tmpI_next (by decide) HT rfl) fun tmp' HT' => ?_)
           clear HT
           rename' tmp' => tmp, HT' => HT)
    refine W.ite (fun _ σ => ∃ m' acc' st' p', σ = ⟨q, kk, vt, gc, o, m', acc', st', p', tmp, fl⟩ ∧ Step P q kk vt m1 acc1 m' acc') (fun σ h => ?_) (fun h => ?_) (fun h hk => ?_)
    · obtain ⟨m3, acc3, st3, p3, rfl, HS⟩ := h
      refine W.dite (fun e => ?_) (fun e => ?_)
      · iterate 19
          change W _ _ _ (.op _ _) _
          first
            | refine W.ld_k (by decide) ?_
            | refine W.ld_q (by decide) ?_
            | refine W.ld_m (by decide) (by decide) ?_
            | refine W.ld_vt (by decide) ?_
            | refine W.ld_tmp (by decide) (by decide) ?_
            | refine W.ld_tmp1 (by decide) (by decide) ?_
            | refine W.ld_acc64 (by decide) (by decide) ?_
            | refine W.ld_acc1 (by decide) (by decide) ?_
            | refine W.ld_acc_whole ?_
            | refine W.ld_tmp_whole ?_
            | refine W.ld_m_whole ?_
            | refine W.ld_flag ?_
            | refine W.ld_gc ?_
            | refine W.ld_o ?_
            | refine W.st_o ?_
            | refine W.st_flag fun fl => ?_
            | (refine W.st_tmp (by decide) (by decide) (W.prods (tmpI_next (by decide) HT rfl) fun tmp' HT' => ?_)
               clear HT
               rename' tmp' => tmp, HT' => HT)
        exact W.ret ⟨_, m1, acc1, m3, acc3, _, _, _, _, rfl, B, HS, fun _ => rfl⟩
      · exact W.ret ⟨_, m1, acc1, m3, acc3, _, _, _, _, rfl, B, HS, fun e' => absurd ((last_iff i).mpr e') e⟩
    · rcases HA with ⟨h1, -⟩ | ⟨-, h2⟩
      · exact absurd ((eq_zero_iff _).mpr (by_contra fun h3 => h ((ne_zero_iff _).mpr h3))) h1
      · exact ⟨_, _, _, _, rfl, .inl ⟨rfl, h2⟩⟩
    · have HA' : acc2 = acc1 := by
        rcases HA with ⟨-, h2⟩ | ⟨h1, -⟩
        · exact h2
        · exact absurd ((eq_zero_iff _).mp h1) ((ne_zero_iff _).mp h)
      clear HA h HT
      subst HA'
      have h0 := B.1
      refine W.bind ((part284_value K hs h0 i renI_zero).mono fun v σ hv => ?_)
      obtain ⟨a1, a2, a3, a4⟩ := v
      obtain ⟨m, acc, st, p, rfl, H, g1, g2, g3, g4⟩ := hv
      have w := part285_value (A := A) (c := c) (gc := gc) (o := o) (tmp := tmp) (p := p) (fl := fl) K hs h0 i a1 a2 a3 a4 g1 g2 g3 g4 H
      refine W.bind (w.mono fun v σ hv => ?_)
      clear g1 g2 g3 g4 H w
      obtain ⟨b1, b2, b3, b4, b5⟩ := v
      obtain ⟨m, acc, st, p, rfl, H, g1, g2, g3, g4, g5⟩ := hv
      have w := part286_value (A := A) (c := c) (gc := gc) (o := o) (tmp := tmp) (p := p) (fl := fl) K hs h0 i b1 b2 b3 b4 b5 g5 g1 g2 g3 g4 H
      refine W.bind (w.mono fun v σ hv => ?_)
      clear g1 g2 g3 g4 g5 H w
      obtain ⟨d1, d2, d3, d4⟩ := v
      obtain ⟨m, acc, st, p, rfl, H, g1, g2, g3, g4⟩ := hv
      iterate 1047
        change W _ _ _ (.op _ _) _
        first
          | refine W.ld_st8 (by decide) (by decide) ?_
          | refine W.ld_st64 (by decide) (by decide) ?_
          | (refine W.st_p _ hF rfl (by decide) (chunk_eq _ _ _) fun p' hF' => ?_
             clear hF
             rename' p' => p, hF' => hF)
          | (refine W.st_p _ (filled_zero _ _ _) rfl (by decide) (chunk_eq _ _ _) fun p' hF' => ?_
             rename' p' => p, hF' => hF)
          | refine W.ld_p hF ?_
          | refine W.ld_p_any fun _ => ?_
          | refine W.ld_q (by decide) ?_
          | refine W.ld_k (by decide) ?_
          | refine W.ld_vt (by decide) ?_
          | refine W.ld_st (by decide) ?_
          | (refine W.st_st (by decide) (W.next (renI_ahead (by decide) (by decide) H rfl) fun m' acc' st' H' => ?_)
             clear H
             rename' m' => m, acc' => acc, st' => st, H' => H)
          | refine W.ld_m (by decide) (by decide) ?_
          | refine W.ld_acc (by decide) (by decide) ?_
          | refine W.st_acc (by decide) (by decide) ?_
          | (refine W.st_m (by decide) (by decide) (W.next (renI_next (by decide) (H.full (by decide)) (shapeCast_self _ _) ?_ rfl) fun m' acc' st' H' => ?_)
             · have hgm := H.good_m (by decide) h0
               have hgs := H.good_st (by decide) (by decide) hs
               repeat' first
                 | assumption | exact good_cast (good_sub3 hgs) | exact good_sub3 hgs | (dsimp only; exact good_sub3 hgs) | apply good_max K | apply good_cast | apply K.red
             clear hF H
             rename' m' => m, acc' => acc, st' => st, H' => H)

      exact hk _ ⟨_, _, _, _, rfl, .inr fun j => H.done j j.isLt⟩
  · exact ⟨_, rfl, .inl ⟨h, rfl⟩⟩
  · iterate 4
      change W _ _ _ (.op _ _) _
      first
        | refine W.ld_acc_whole ?_
        | refine W.ld_tmp_whole ?_
        | refine W.st_acc_whole ?_
    exact hk _ ⟨_, rfl, .inr ⟨h, fun j => (stream_eq _ _ _ rfl j).trans (congrArg _ (HT j j.isLt))⟩⟩

end Cert.Mla
-- ==== Proof.Soft.lean ====
/-
  Sums weighted by powers of two, over the extended reals: how they change with the reference, and that their quotient is the softmax's.
-/
module

public import Idealize.ShloMosaic.PureOps.Ideal.Laws
public import Idealize.ShloMosaic.PureOps.Reduce

@[expose] public section

noncomputable section

namespace Cert.Mla

open Idealize.ShloMosaic

theorem exp2_sub (s μ : ℝ) : Ideal.exp2 ((s : EReal) - (μ : EReal)) = ((Real.rpow 2 (s - μ) : ℝ) : EReal) := by
  rw [← EReal.coe_sub, Ideal.exp2_coe]

theorem pow_pos' (x : ℝ) : 0 < Real.rpow 2 x := Real.rpow_pos_of_pos (by norm_num) x

/-- A nonnegative real goes into a sum. -/
theorem mul_sum_real {ι : Type} (s : Finset ι) (f : ι → EReal) {r : ℝ} (hr : 0 ≤ r) : (r : EReal) * ∑ i ∈ s, f i = ∑ i ∈ s, (r : EReal) * f i := by
  induction s using Finset.cons_induction with
  | empty => simp
  | cons a s ha ih =>
    rw [Finset.sum_cons, Finset.sum_cons, EReal.left_distrib_of_nonneg_of_ne_top (EReal.coe_nonneg.mpr hr) (EReal.coe_ne_top _), ih]

theorem coe_sum_real {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The sum of the first `n` values under the weights `2 ^ (S t - μ)`. -/
def part (S : ℕ → ℝ) (V : ℕ → EReal) (μ : ℝ) (n : ℕ) : EReal := ∑ t ∈ Finset.range n, V t * ((Real.rpow 2 (S t - μ) : ℝ) : EReal)

theorem part_zero (S : ℕ → ℝ) (V : ℕ → EReal) (μ : ℝ) : part S V μ 0 = 0 := Finset.sum_range_zero _

/-- A block more. -/
theorem part_add (S : ℕ → ℝ) (V : ℕ → EReal) (μ : ℝ) (n N : ℕ) :
    part S V μ (n + N) = part S V μ n + ∑ k : Fin N, V (n + k.val) * Ideal.exp2 ((S (n + k.val) : EReal) - (μ : EReal)) := by
  unfold part
  rw [Finset.sum_range_add, Finset.sum_range (fun x => V (n + x) * ((Real.rpow 2 (S (n + x) - μ) : ℝ) : EReal))]
  simp only [exp2_sub]

/-- Against another reference. -/
theorem part_renew (S : ℕ → ℝ) (V : ℕ → EReal) (μ ν : ℝ) (n : ℕ) :
    Ideal.exp2 ((μ : EReal) - (ν : EReal)) * part S V μ n = part S V ν n := by
  unfold part
  rw [exp2_sub, mul_sum_real _ _ (pow_pos' _).le]
  refine Finset.sum_congr rfl fun t _ => ?_
  rw [mul_left_comm, ← EReal.coe_mul]
  congr 2
  show (2 : ℝ) ^ (μ - ν) * (2 : ℝ) ^ (S t - μ) = (2 : ℝ) ^ (S t - ν)
  rw [← Real.rpow_add (by norm_num)]
  congr 1; ring

/-- The quotient of two such sums is the softmax's sum. -/
theorem soft (s : ℕ → ℝ) (V : ℕ → EReal) (μ M : ℝ) (N : ℕ) (hN : 0 < N) :
    Ideal.div (part (fun t => s t * (Real.log 2)⁻¹) V μ N) (part (fun t => s t * (Real.log 2)⁻¹) (fun _ => 1) μ N)
      = ∑ k : Fin N, V k.val * Ideal.div (Ideal.exp ((s k.val : EReal) - (M : EReal))) (0 + ∑ k : Fin N, Ideal.exp ((s k.val : EReal) - (M : EReal))) := by
  have hl : Real.log 2 ≠ 0 := (Real.log_pos (by norm_num)).ne'
  have he : ∀ t, Real.rpow 2 (s t * (Real.log 2)⁻¹ - μ) = Real.rpow 2 (M * (Real.log 2)⁻¹ - μ) * Real.exp (s t - M) := fun t => by
    show (2 : ℝ) ^ (s t * (Real.log 2)⁻¹ - μ) = (2 : ℝ) ^ (M * (Real.log 2)⁻¹ - μ) * Real.exp (s t - M)
    rw [Real.rpow_def_of_pos (by norm_num), Real.rpow_def_of_pos (by norm_num), ← Real.exp_add]
    congr 1; field_simp; ring
  have hc := pow_pos' (M * (Real.log 2)⁻¹ - μ)
  generalize Real.rpow 2 (M * (Real.log 2)⁻¹ - μ) = c at he hc
  have hD : 0 < ∑ k : Fin N, Real.exp (s k.val - M) := Finset.sum_pos (fun _ _ => Real.exp_pos _) ⟨⟨0, hN⟩, Finset.mem_univ _⟩
  have h1 : part (fun t => s t * (Real.log 2)⁻¹) (fun _ => 1) μ N = ((c * ∑ k : Fin N, Real.exp (s k.val - M) : ℝ) : EReal) := by
    unfold part
    rw [Finset.sum_range (fun t => (1 : EReal) * ((Real.rpow 2 (s t * (Real.log 2)⁻¹ - μ) : ℝ) : EReal)), Finset.mul_sum, coe_sum_real]
    exact Finset.sum_congr rfl fun k _ => by rw [one_mul, he]
  have h2 : (0 + ∑ k : Fin N, Ideal.exp ((s k.val : EReal) - (M : EReal))) = ((∑ k : Fin N, Real.exp (s k.val - M) : ℝ) : EReal) := by
    rw [zero_add, coe_sum_real]
    exact Finset.sum_congr rfl fun k _ => by rw [← EReal.coe_sub, Ideal.exp_coe]
  rw [h1, h2]
  generalize (∑ k : Fin N, Real.exp (s k.val - M)) = D at hD
  rw [Ideal.div_coe (mul_pos hc hD).ne', mul_comm]
  unfold part
  rw [mul_sum_real _ _ (by positivity), Finset.sum_range (fun t => ((1 / (c * D) : ℝ) : EReal) * (V t * ((Real.rpow 2 (s t * (Real.log 2)⁻¹ - μ) : ℝ) : EReal)))]
  refine Finset.sum_congr rfl fun k _ => ?_
  rw [Ideal.div_coe hD.ne', he, mul_left_comm, ← EReal.coe_mul, ← EReal.coe_sub, Ideal.exp_coe, ← EReal.coe_mul]
  congr 2
  field_simp

/-- The larger of two reals is real. -/
theorem real_max {a b : EReal} (ha : ∃ r : ℝ, a = r) (hb : ∃ r : ℝ, b = r) : ∃ r : ℝ, max a b = r := by
  rcases max_cases a b with ⟨h, -⟩ | ⟨h, -⟩ <;> rw [h] <;> assumption

/-- The largest of reals, one at least, is real. -/
theorem real_foldl {β : Type} (f : β → EReal) (hf : ∀ b, ∃ r : ℝ, f b = r) (l : List β) :
    ∀ a : EReal, (a = ⊥ ∧ l ≠ []) ∨ (∃ r : ℝ, a = r) → ∃ r : ℝ, l.foldl (fun x b => max x (f b)) a = r := by
  induction l with
  | nil => rintro a (⟨-, h⟩ | h)
           · exact absurd rfl h
           · exact h
  | cons b l ih =>
    rintro a (⟨rfl, -⟩ | h)
    · refine ih _ (.inr ?_)
      show ∃ r : ℝ, max ⊥ (f b) = r
      rw [max_eq_right bot_le]
      exact hf b
    · exact ih _ (.inr (real_max h (hf b)))

theorem ofBits_neg_inf : (Ideal.ofBits .f32 0xFF800000#32 : EReal) = ⊥ := by simp [Ideal.ofBits, Ideal.ieee]

/-- So is a row's maximum. -/
theorem real_reduce {s t : Shape} {a : Fin s.rank} (h : s.Reduces [a] t) (x : FVec Ideal s .f32) (hx : ∀ i, ∃ r : ℝ, x i = r) (k : Fin (s.size a))
    (hφ : FKind.Formats .f32) (hacc : 0xFF800000#32 = FKind.maximumf.neutral .f32 hφ) (j : t.Idx) :
    ∃ r : ℝ, multiReduction (F := Ideal) .maximumf [a] t x 0xFF800000#32 h hφ hacc j = (r : EReal) := by
  rw [multiReduction_maximumf_eq_reduceFold, reduceFold_eq_foldl]
  refine real_foldl x hx _ _ (.inl ⟨ofBits_neg_inf, ?_⟩)
  refine List.ne_nil_of_mem (a := h.lift j k) (List.mem_filter.mpr ⟨List.mem_map.mpr ⟨s.rowMajor (h.lift j k), List.mem_finRange _, by simp⟩, ?_⟩)
  exact decide_eq_true (h.drop_lift j k)

end Cert.Mla
-- ==== Proof.Heads.lean ====
/-
  One grid point's quantities at the ideal values, element by element.
-/
module

public import proofs.«01_k».proof.Proof.Body
public import proofs.«01_k».proof.Proof.Soft
public import Idealize.ShloMosaic.Lib.MatmulPlain
public import Idealize.ShloMosaic.Lib.Pointwise
public import Idealize.ShloMosaic.Lib.Pipeline.Value

@[expose] public section

noncomputable section

namespace Cert.Mla

open Cert.KernelIdeal Cert.KernelIdeal.Facts Cert.KernelIdeal.Shapes1.Facts₀
open Idealize.ShloMosaic Idealize.ShloMosaic.TcCoe

variable {q : Vec Ideal S1x512x1024 .bf16} {kk : Vec Ideal S1x2048x1024 .bf16} {vt : Vec Ideal S1x640x2048 .bf16} {gc : Vec Ideal S1x512x512 .bf16}

/-- A real number. -/
def Rl (x : Ideal .f32) : Prop := ∃ r : ℝ, x = (r : EReal)

theorem real_red8 (v : FVec Ideal S8x512 .f32) (hv : Good Rl v) (j : S512.Idx) :
    Rl (multiReduction (F := Ideal) .maximumf [0] S512 v 0xFF800000#32 reduces_S8x512_S512 (.inl rfl) rfl j) :=
  real_reduce (a := (0 : Fin S8x512.rank)) reduces_S8x512_S512 v hv (⟨0, by decide⟩ : Fin (S8x512.size 0)) (.inl rfl) rfl j

theorem real_red16 (v : FVec Ideal S16x512 .f32) (hv : Good Rl v) (j : S512.Idx) :
    Rl (multiReduction (F := Ideal) .maximumf [0] S512 v 0xFF800000#32 reduces_S16x512_S512 (.inl rfl) rfl j) :=
  real_reduce (a := (0 : Fin S16x512.rank)) reduces_S16x512_S512 v hv (⟨0, by decide⟩ : Fin (S16x512.size 0)) (.inl rfl) rfl j

theorem keeps_real : Keeps Rl where
  max _ _ ha hb := real_max ha hb
  red v hv := real_red8 v hv
  red16 v hv := real_red16 v hv

theorem vix2 {n0 n1 : ℕ} (a : Fin n0) (b : Fin n1) : ValueIdx.ix2 a b = ix2 a b := funext fun c => match c with
  | ⟨0, _⟩ => rfl
  | ⟨1, _⟩ => rfl

theorem ix2_0 {n0 n1 : ℕ} (a : Fin n0) (b : Fin n1) : (ix2 a b) 0 = a := rfl
theorem ix2_1 {n0 n1 : ℕ} (a : Fin n0) (b : Fin n1) : (ix2 a b) 1 = b := rfl

theorem sc_apply (j : Fin 8) (t : Fin 2048) (r : Fin 512) :
    sc q kk j (ix2 t r) = (∑ d : Fin 128, kk (ix3 0 t ⟨128 * j.val + d.val, by omega⟩) * q (ix3 0 r ⟨128 * j.val + d.val, by omega⟩)) * (((Real.log 2)⁻¹ : ℝ) : EReal) := by
  refine congrArg (· * _) ((Ideal.matmul_transposedRhs_apply (M := 2048) (K := 128) (N := 512) none _ _ _ t r).trans ?_)
  refine (congrArg (· + _) Ideal.ofBits_zero_f32).trans ((zero_add _).trans (Finset.sum_congr rfl fun d _ => ?_))
  pointwise []
  rfl

theorem probe_apply (j : Fin 8) (t : Fin 16) (r : Fin 512) :
    probe q kk j (ix2 t r) = sc q kk j (ix2 ⟨t.val, by omega⟩ r) := by
  rw [sc_apply]
  refine congrArg (· * _) ((Ideal.matmul_transposedRhs_apply (M := 16) (K := 128) (N := 512) none _ _ _ t r).trans ?_)
  refine (congrArg (· + _) Ideal.ofBits_zero_f32).trans ((zero_add _).trans (Finset.sum_congr rfl fun d _ => ?_))
  pointwise []
  refine congrArg₂ (· * ·) (congrArg kk ?_) rfl
  exact congrArg (fun z => ix3 0 z _) (Fin.ext (Nat.zero_add _))

theorem tmpE_apply (s : FVec Ideal S2048x512 .f32) (mr : Vec Ideal S1x512 .f32) (v : Vec Ideal S1x80x2048 .bf16) (x : Fin 80) (r : Fin 512) :
    tmpE s mr v (ix2 x r) = ∑ k : Fin 2048, v (ix3 0 x k) * Ideal.exp2 (s (ix2 k r) - mr (ix2 0 r)) := by
  unfold tmpE
  rw [shapeCast_self]
  refine (Ideal.matmul_plain_apply (M := 80) (K := 2048) (N := 512) none _ _ _ x r).trans ?_
  refine (congrArg (· + _) Ideal.ofBits_zero_f32).trans ((zero_add _).trans (Finset.sum_congr rfl fun d _ => ?_))
  pointwise []
  simp only [vix2]
  rfl

theorem accE_apply (mr mn : Vec Ideal S1x512 .f32) (a : Vec Ideal S80x512 .f32) (v : Vec Ideal S1x80x2048 .bf16) (X : FVec Ideal S2048x512 .f32) (x : Fin 80) (r : Fin 512) :
    accE mr mn a v (expE (shapeCast S1x2048x512 X shapeCasts_S2048x512_S1x2048x512) mn) (ix2 x r) = Ideal.exp2 (mr (ix2 0 r) - mn (ix2 0 r)) * a (ix2 x r)
      + ∑ k : Fin 2048, v (ix3 0 x k) * Ideal.exp2 (X (ix2 k r) - mn (ix2 0 r)) := by
  unfold accE
  rw [shapeCast_self]
  refine congrArg₂ (· + ·) ?_ ((Ideal.matmul_plain_apply (M := 80) (K := 2048) (N := 512) none _ _ _ x r).trans ?_)
  · pointwise []
    rfl
  refine (congrArg (· + _) Ideal.ofBits_zero_f32).trans ((zero_add _).trans (Finset.sum_congr rfl fun d _ => ?_))
  pointwise [expE]
  simp only [vix2]
  rfl

theorem ratio_eq (a : Vec Ideal S80x512 .f32) (x : Fin 64) (r : Fin 512) (h : 0 + 64 ≤ 80) (h' : 64 + 1 ≤ 80) :
    Ideal.div (sub2 64 0 h a (ix2 x r)) (sub2 1 64 h' a (ix2 0 r)) = Ideal.div (a (ix2 ⟨x.val, by omega⟩ r)) (a (ix2 64 r)) :=
  congrArg (Ideal.div · _) (congrArg (fun z => a (ix2 z r)) (Fin.ext (Nat.zero_add _)))

theorem ratio_apply (a : Vec Ideal S80x512 .f32) (x : Fin 64) (r : Fin 512) : ratioE a (ix2 x r) = Ideal.div (a (ix2 ⟨x.val, by omega⟩ r)) (a (ix2 64 r)) := by
  unfold ratioE
  pointwise []
  exact ratio_eq a x r _ _

theorem outE_apply (acc : Fin 8 → Vec Ideal S80x512 .f32) (r y : Fin 512) :
    outE gc acc (ix3 0 r y) = Ideal.div (acc ⟨y.val / 64, by omega⟩ (ix2 ⟨y.val % 64, by omega⟩ r)) (acc ⟨y.val / 64, by omega⟩ (ix2 64 r)) * gc (ix3 0 r y) := by
  have key : ∀ (k : Fin 8) (z : Fin 64), y.val = 64 * k.val + z.val → Ideal.div (acc k (ix2 ⟨z.val, by omega⟩ r)) (acc k (ix2 64 r))
      = Ideal.div (acc ⟨y.val / 64, by omega⟩ (ix2 ⟨y.val % 64, by omega⟩ r)) (acc ⟨y.val / 64, by omega⟩ (ix2 64 r)) := fun k z h => by
    have e : (⟨y.val / 64, by omega⟩ : Fin 8) = k := Fin.ext (by show y.val / 64 = k.val; omega)
    have e' : (⟨y.val % 64, by omega⟩ : Fin 80) = ⟨z.val, by omega⟩ := Fin.ext (by show y.val % 64 = z.val; omega)
    rw [e, e']
  unfold outE
  pointwise [KernelIdeal.Gen.k0_pay1213]
  refine congrArg (· * _) ?_
  simp only [ratio_apply, ratio_eq]
  split_ifs
  all_goals first
    | exact key 0 ⟨y.val, by omega⟩ (by dsimp only; omega)
    | exact key 7 ⟨y.val - 64 - 64 - 64 - 64 - 64 - 64 - 64, by omega⟩ (by dsimp only; omega)
    | exact key 0 ⟨_, by omega⟩ (by dsimp only; omega)
    | exact key 1 ⟨_, by omega⟩ (by dsimp only; omega)
    | exact key 2 ⟨_, by omega⟩ (by dsimp only; omega)
    | exact key 3 ⟨_, by omega⟩ (by dsimp only; omega)
    | exact key 4 ⟨_, by omega⟩ (by dsimp only; omega)
    | exact key 5 ⟨_, by omega⟩ (by dsimp only; omega)
    | exact key 6 ⟨_, by omega⟩ (by dsimp only; omega)
    | exact key 7 ⟨_, by omega⟩ (by dsimp only; omega)

end Cert.Mla
-- ==== Proof.Track.lean ====
/-
  What the reference rows and the accumulators hold after a number of keys, and one grid point's step of it.
-/
module

public import proofs.«01_k».proof.Proof.Heads

@[expose] public section

noncomputable section

namespace Cert.Mla

open Cert.KernelIdeal Cert.KernelIdeal.Facts
open Idealize.ShloMosaic Idealize.ShloMosaic.TcCoe

variable (S : Fin 8 → Fin 512 → ℕ → ℝ) (V : Fin 8 → Fin 80 → ℕ → EReal)

/-- Every head's row of the accumulator is its weighted sum over the first `n` keys, at a real reference. -/
def Sums (n : ℕ) (m : Fin 8 → Vec Ideal S1x512 .f32) (acc : Fin 8 → Vec Ideal S80x512 .f32) : Prop :=
  ∀ (j : Fin 8) (r : Fin 512), ∃ μ : ℝ, m j (ix2 0 r) = (μ : EReal) ∧ ∀ x : Fin 80, acc j (ix2 x r) = part (S j r) (V j x) μ n

variable {S V} {n : ℕ} {m m0 m1 : Fin 8 → Vec Ideal S1x512 .f32} {acc acc0 acc1 : Fin 8 → Vec Ideal S80x512 .f32}
variable {q : Vec Ideal S1x512x1024 .bf16} {kk : Vec Ideal S1x2048x1024 .bf16} {vt : Vec Ideal S1x640x2048 .bf16}

theorem Sums.good (h : Sums S V n m acc) (j : Fin 8) : Good Rl (s := S1x512) (m j) := fun i => by
  obtain ⟨a, r, rfl⟩ : ∃ (a : Fin 1) (r : Fin 512), i = ix2 a r := ⟨i 0, i 1, eq_ix2 (n0 := 1) (n1 := 512) i⟩
  obtain ⟨μ, h, -⟩ := h j r
  obtain rfl : a = 0 := Subsingleton.elim _ _
  exact ⟨μ, h⟩

theorem sums_begun {i : grid0.Coords} (hb : Begun Rl i m acc m0 acc0) (h0 : (i 2).val = 0 → n = 0) (h : (i 2).val ≠ 0 → Sums S V n m acc) : Sums S V n m0 acc0 := by
  rcases hb.2 with ⟨hi, hz⟩ | ⟨hi, rfl, rfl⟩
  · intro j r
    obtain ⟨μ, hμ⟩ := hb.1 j (ix2 0 r)
    refine ⟨μ, hμ, fun x => ?_⟩
    rw [h0 hi, part_zero, hz]
    exact Ideal.ofBits_zero_f32
  · exact h hi

theorem sums_step (hs : ∀ j k r, sc q kk j (ix2 k r) = ((S j r (n + k.val) : ℝ) : EReal)) (hv : ∀ (j : Fin 8) (x : Fin 80) (k : Fin 2048), hrows j vt (ix3 0 x k) = V j x (n + k.val))
    (h : Sums S V n m0 acc0) (hst : Step Rl q kk vt m0 acc0 m1 acc1) : Sums S V (n + 2048) m1 acc1 := by
  intro j r
  obtain ⟨μ, hμ, ha⟩ := h j r
  rcases hst with ⟨rfl, hst⟩ | hst
  · refine ⟨μ, hμ, fun x => ?_⟩
    rw [part_add, hst j, ← ha x]
    refine congrArg (acc0 j (ix2 x r) + ·) ((tmpE_apply _ _ _ x r).trans (Finset.sum_congr rfl fun k _ => ?_))
    rw [hs, hv, hμ]
  · obtain ⟨hg, hst⟩ := hst j
    obtain ⟨ν, hν⟩ := hg (ix2 0 r)
    refine ⟨ν, hν, fun x => ?_⟩
    rw [part_add, hst, ← part_renew _ _ μ, ← ha x]
    refine (accE_apply _ _ _ _ (sc q kk j) x r).trans ?_
    rw [hμ, hν]
    refine congrArg (Ideal.exp2 _ * acc0 j (ix2 x r) + ·) (Finset.sum_congr rfl fun k _ => ?_)
    rw [hs, hv]

end Cert.Mla

end
-- ==== Proof.Blocks.lean ====
/-
  The blocks a grid point reads, and where it stands in the grid.
-/
module

public import proofs.«01_k».proof.Proof.Launch
public import proofs.«01_k».proof.Proof.Heads
public import proofs.«01_k».proof.Proof.Gen.KernelIdeal.Points
public import Idealize.ShloMosaic.Lib.Pipeline.ValueKit
public import Idealize.ShloMosaic.Lib.Pipeline.FrameBody

@[expose] public section

noncomputable section

namespace Cert.Mla

open Cert.KernelIdeal Cert.KernelIdeal.Facts Cert.KernelIdeal.Gen
open Idealize.ShloMosaic Idealize.ShloMosaic.TcCoe
open Idealize.ShloMosaic.Pipeline (RDat Cfg Window)

variable (m : (ℓ : Loc nD τ sig) → Buf (Elt Ideal) ℓ) (c : Dev nD)

/-- The windows' places: batch, block of queries and block of keys. -/
theorem places : ∀ t : Fin cfg0.N, win0_0.index t = ![t.val / 64, t.val / 4 % 16, 0] ∧ win0_1.index t = ![t.val / 64, t.val % 4, 0]
    ∧ win0_2.index t = ![t.val / 64, 0, t.val % 4] ∧ win0_3.index t = ![t.val / 64, t.val / 4 % 16, 0] ∧ win0_4.index t = ![t.val / 64, t.val / 4 % 16, 0] :=
  (by decide +kernel : ∀ t : Fin grid0.N, _)

theorem key_block : ∀ t : Fin cfg0.N, (grid0.coords t 2).val = t.val % 4 :=
  (by decide +kernel : ∀ t : Fin grid0.N, _)

theorem lt_N (t : Fin cfg0.N) : t.val < 512 := t.isLt

def batch (t : Fin cfg0.N) : Fin 8 := ⟨t.val / 64, by have := lt_N t; omega⟩
def query (t : Fin cfg0.N) (r : Fin 512) : Fin 8192 := ⟨t.val / 4 % 16 * 512 + r.val, by have := lt_N t; omega⟩
def key (t : Fin cfg0.N) (k : Fin 2048) : Fin 8192 := ⟨t.val % 4 * 2048 + k.val, by have := lt_N t; omega⟩

/-- The arrays the windows read. -/
def Qa : Vec Ideal S8x8192x1024 .bf16 := V m c (Pipeline.arrRef spec0 0)
def Ka : Vec Ideal S8x8192x1024 .bf16 := V m c (Pipeline.arrRef spec0 1)
def Va : Vec Ideal S8x640x8192 .bf16 := V m c (Pipeline.arrRef spec0 2)
def Ga : Vec Ideal S8x8192x512 .bf16 := V m c (Pipeline.arrRef spec0 3)

theorem q_at (t : Fin cfg0.N) (r : Fin 512) (d : Fin 1024) : (win0_0.blk t).view.emb (ix3 0 r d) = ix3 (batch t) (query t r) d := by
  obtain ⟨h, -⟩ := places t
  unfold batch query
  blk_ext [h]

theorem q_read (X : Vec Ideal S8x8192x1024 .bf16) (t : Fin cfg0.N) (r : Fin 512) (d : Fin 1024) :
    ((win0_0.blk t).view.read (Elt Ideal) X : Vec Ideal S1x512x1024 .bf16) (ix3 0 r d) = X (ix3 (batch t) (query t r) d) :=
  congrArg X (q_at t r d)

theorem q_block (t : Fin cfg0.N) (r : Fin 512) (d : Fin 1024) : (iblk m c 0 t : Vec Ideal S1x512x1024 .bf16) (ix3 0 r d) = Qa m c (ix3 (batch t) (query t r) d) := by
  unfold iblk Qa
  generalize V m c (Pipeline.arrRef spec0 0) = X
  exact q_read X t r d

theorem k_at (t : Fin cfg0.N) (k : Fin 2048) (d : Fin 1024) : (win0_1.blk t).view.emb (ix3 0 k d) = ix3 (batch t) (key t k) d := by
  obtain ⟨-, h, -⟩ := places t
  unfold batch key
  blk_ext [h]

theorem k_read (X : Vec Ideal S8x8192x1024 .bf16) (t : Fin cfg0.N) (k : Fin 2048) (d : Fin 1024) :
    ((win0_1.blk t).view.read (Elt Ideal) X : Vec Ideal S1x2048x1024 .bf16) (ix3 0 k d) = X (ix3 (batch t) (key t k) d) :=
  congrArg X (k_at t k d)

theorem k_block (t : Fin cfg0.N) (k : Fin 2048) (d : Fin 1024) : (iblk m c 1 t : Vec Ideal S1x2048x1024 .bf16) (ix3 0 k d) = Ka m c (ix3 (batch t) (key t k) d) := by
  unfold iblk Ka
  generalize V m c (Pipeline.arrRef spec0 1) = X
  exact k_read X t k d

theorem v_at (t : Fin cfg0.N) (x : Fin 640) (k : Fin 2048) : (win0_2.blk t).view.emb (ix3 0 x k) = ix3 (batch t) x (key t k) := by
  obtain ⟨-, -, h, -⟩ := places t
  unfold batch key
  blk_ext [h]

theorem v_read (X : Vec Ideal S8x640x8192 .bf16) (t : Fin cfg0.N) (x : Fin 640) (k : Fin 2048) :
    ((win0_2.blk t).view.read (Elt Ideal) X : Vec Ideal S1x640x2048 .bf16) (ix3 0 x k) = X (ix3 (batch t) x (key t k)) :=
  congrArg X (v_at t x k)

theorem v_block (t : Fin cfg0.N) (x : Fin 640) (k : Fin 2048) : (iblk m c 2 t : Vec Ideal S1x640x2048 .bf16) (ix3 0 x k) = Va m c (ix3 (batch t) x (key t k)) := by
  unfold iblk Va
  generalize V m c (Pipeline.arrRef spec0 2) = X
  exact v_read X t x k

theorem g_at (t : Fin cfg0.N) (r y : Fin 512) : (win0_3.blk t).view.emb (ix3 0 r y) = ix3 (batch t) (query t r) y := by
  obtain ⟨-, -, -, h, -⟩ := places t
  unfold batch query
  blk_ext [h]

theorem g_read (X : Vec Ideal S8x8192x512 .bf16) (t : Fin cfg0.N) (r y : Fin 512) :
    ((win0_3.blk t).view.read (Elt Ideal) X : Vec Ideal S1x512x512 .bf16) (ix3 0 r y) = X (ix3 (batch t) (query t r) y) :=
  congrArg X (g_at t r y)

theorem g_block (t : Fin cfg0.N) (r y : Fin 512) : (iblk m c 3 t : Vec Ideal S1x512x512 .bf16) (ix3 0 r y) = Ga m c (ix3 (batch t) (query t r) y) := by
  unfold iblk Ga
  generalize V m c (Pipeline.arrRef spec0 3) = X
  exact g_read X t r y

variable {m c} {after : After Ideal} {I : Track Ideal}

theorem finds_q (ha : ∀ t Y X, after 0 t Y X → X = Y) (t : Fin cfg0.N) (Y) (h : (dat m after I c).Finds 0 t Y) : Y = iblk m c 0 t := by
  obtain ⟨d, rfl⟩ := (dat m after I c).finds_in_eq_fetched 0 rfl (fun _ _ _ => rfl) ha t Y h
  rfl

theorem finds_k (ha : ∀ t Y X, after 1 t Y X → X = Y) (t : Fin cfg0.N) (Y) (h : (dat m after I c).Finds 1 t Y) : Y = iblk m c 1 t := by
  obtain ⟨d, rfl⟩ := (dat m after I c).finds_in_eq_fetched 1 rfl (fun _ _ _ => rfl) ha t Y h
  rfl

theorem finds_v (ha : ∀ t Y X, after 2 t Y X → X = Y) (t : Fin cfg0.N) (Y) (h : (dat m after I c).Finds 2 t Y) : Y = iblk m c 2 t := by
  obtain ⟨d, rfl⟩ := (dat m after I c).finds_in_eq_fetched 2 rfl (fun _ _ _ => rfl) ha t Y h
  rfl

theorem finds_g (ha : ∀ t Y X, after 3 t Y X → X = Y) (t : Fin cfg0.N) (Y) (h : (dat m after I c).Finds 3 t Y) : Y = iblk m c 3 t := by
  obtain ⟨d, rfl⟩ := (dat m after I c).finds_in_eq_fetched 3 rfl (fun _ _ _ => rfl) ha t Y h
  rfl

end Cert.Mla

end
-- ==== Proof.Point.lean ====
/-
  What every grid point leaves: sums over the keys met so far, and after the last block of keys the attention's rows.
-/
module

public import proofs.«01_k».proof.Proof.Track
public import proofs.«01_k».proof.Proof.Blocks

@[expose] public section

noncomputable section

namespace Cert.Mla

open Cert.KernelIdeal Cert.KernelIdeal.Facts Cert.KernelIdeal.Gen
open Idealize.ShloMosaic Idealize.ShloMosaic.TcCoe
open Idealize.ShloMosaic.Pipeline (RDat Cfg Window)

theorem part_congr {S : ℕ → ℝ} {V V' : ℕ → EReal} {μ : ℝ} {n : ℕ} (h : ∀ t, t < n → V t = V' t) : part S V μ n = part S V' μ n :=
  Finset.sum_congr rfl fun t ht => by rw [h t (Finset.mem_range.mp ht)]

/-- A row's attention over 8192 keys of real scores `s`, taken from the reference `M`. -/
def att (s : ℕ → ℝ) (V : ℕ → EReal) (M : ℝ) : EReal :=
  ∑ k : Fin 8192, V k.val * Ideal.div (Ideal.exp ((s k.val : EReal) - (M : EReal))) (0 + ∑ k : Fin 8192, Ideal.exp ((s k.val : EReal) - (M : EReal)))

variable (s : Fin 8 → Fin 8 → Fin 8192 → ℕ → ℝ) (M : Fin 8 → Fin 8 → Fin 8192 → ℝ)
variable (m : (ℓ : Loc nD τ sig) → Buf (Elt Ideal) ℓ) (c : Dev nD)

/-- A head's values, the row of ones beneath them, by key. -/
def vals (b : Fin 8) (j : Fin 8) (x : Fin 80) (t : ℕ) : EReal := if h : t < 8192 then Va m c (ix3 b ⟨80 * j.val + x.val, by omega⟩ ⟨t, h⟩) else 0

/-- The scores of the arrays that the windows read are `s`, and the rows beneath the values are ones. -/
structure Scored : Prop where
  score : ∀ (b j : Fin 8) (r t : Fin 8192), ∑ d : Fin 128, Ka m c (ix3 b t ⟨128 * j.val + d.val, by omega⟩) * Qa m c (ix3 b r ⟨128 * j.val + d.val, by omega⟩) = ((s b j r t.val : ℝ) : EReal)
  ones : ∀ (b j : Fin 8) (t : Fin 8192), Va m c (ix3 b ⟨80 * j.val + 64, by omega⟩ t) = 1

/-- What the accumulators hold before a grid point. -/
def track : Track Ideal := fun u mr acc => ∀ t : Fin cfg0.N, u = t.castSucc → t.val % 4 ≠ 0 →
  Sums (fun j r k => s (batch t) j (query t r) k * (Real.log 2)⁻¹) (vals m c (batch t)) (t.val % 4 * 2048) mr acc

/-- The block a point leaves in the output's window after the last keys. -/
def Done (t : Fin cfg0.N) (X : Vec Ideal S1x512x512 .bf16) : Prop := t.val % 4 = 3 → ∀ r y : Fin 512,
  X (ix3 0 r y) = att (s (batch t) ⟨y.val / 64, by omega⟩ (query t r)) (vals m c (batch t) ⟨y.val / 64, by omega⟩ ⟨y.val % 64, by omega⟩) (M (batch t) ⟨y.val / 64, by omega⟩ (query t r))
    * Ga m c (ix3 (batch t) (query t r) y)

/-- What a point leaves in its windows. -/
def leaves : After Ideal := fun w t Y X => (w ≠ 4 → X = Y) ∧ (w = 4 → ∀ X' : Vec Ideal S1x512x512 .bf16, HEq X X' → Done s M m c t X')

variable {s M m c}

theorem vals_lt {b j : Fin 8} {x : Fin 80} {t : ℕ} (h : t < 8192) : vals m c b j x t = Va m c (ix3 b ⟨80 * j.val + x.val, by omega⟩ ⟨t, h⟩) := dif_pos h

theorem row_att {t : Fin cfg0.N} (h : Scored s m c) (j : Fin 8) (r : Fin 512) (x : Fin 64) (μ : ℝ) :
    Ideal.div (part (fun k => s (batch t) j (query t r) k * (Real.log 2)⁻¹) (vals m c (batch t) j ⟨x.val, by omega⟩) μ 8192)
      (part (fun k => s (batch t) j (query t r) k * (Real.log 2)⁻¹) (vals m c (batch t) j 64) μ 8192)
    = att (s (batch t) j (query t r)) (vals m c (batch t) j ⟨x.val, by omega⟩) (M (batch t) j (query t r)) := by
  rw [part_congr (V := vals m c (batch t) j 64) (V' := fun _ => 1) fun k hk => (dif_pos hk).trans (h.ones (batch t) j ⟨k, hk⟩)]
  exact soft _ _ μ _ 8192 (by norm_num)

/-- Every grid point keeps the sums and, at the last block of keys, leaves the attention's rows. -/
theorem point_value (h : Scored s m c) : Point m (leaves s M m c) (track s m c) c := fun t Y hY mr acc st p tmp fl hI => by
  have eq : Y 0 = iblk m c 0 t := finds_q (fun t Y X hX => hX.1 (by decide)) t _ (hY 0)
  have ek : Y 1 = iblk m c 1 t := finds_k (fun t Y X hX => hX.1 (by decide)) t _ (hY 1)
  have ev : Y 2 = iblk m c 2 t := finds_v (fun t Y X hX => hX.1 (by decide)) t _ (hY 2)
  have eg : Y 3 = iblk m c 3 t := finds_g (fun t Y X hX => hX.1 (by decide)) t _ (hY 3)
  have hq : ∀ r d, (Y 0 : Vec Ideal S1x512x1024 .bf16) (ix3 0 r d) = _ := fun r d => (congrFun eq _).trans (q_block m c t r d)
  have hk : ∀ r d, (Y 1 : Vec Ideal S1x2048x1024 .bf16) (ix3 0 r d) = _ := fun r d => (congrFun ek _).trans (k_block m c t r d)
  have hv : ∀ r d, (Y 2 : Vec Ideal S1x640x2048 .bf16) (ix3 0 r d) = _ := fun r d => (congrFun ev _).trans (v_block m c t r d)
  have hg : ∀ r d, (Y 3 : Vec Ideal S1x512x512 .bf16) (ix3 0 r d) = _ := fun r d => (congrFun eg _).trans (g_block m c t r d)
  clear eq ek ev eg hY
  generalize Y 0 = q at hq
  generalize Y 1 = kk at hk
  generalize Y 2 = vt at hv
  generalize Y 3 = gc at hg
  generalize Y 4 = o
  have hn := key_block t
  have hlt := lt_N t
  have hs : ∀ j k r, sc q kk j (ix2 k r) = ((s (batch t) j (query t r) (t.val % 4 * 2048 + k.val) * (Real.log 2)⁻¹ : ℝ) : EReal) := fun j k r => by
    rw [sc_apply, EReal.coe_mul]
    refine congrArg (· * _) (Eq.trans (Finset.sum_congr rfl fun d _ => ?_) (h.score (batch t) j (query t r) (key t k)))
    rw [hq, hk]
  have hvt : ∀ (j : Fin 8) (x : Fin 80) (k : Fin 2048), hrows j vt (ix3 0 x k) = vals m c (batch t) j x (t.val % 4 * 2048 + k.val) := fun j x k =>
    (hv ⟨80 * j.val + x.val, by omega⟩ k).trans (vals_lt (b := batch t) (j := j) (x := x) (key t k).isLt).symm
  have gs : ∀ j, Good Rl (sc q kk j) := fun j i => by
    obtain ⟨k, r, rfl⟩ : ∃ (k : Fin 2048) (r : Fin 512), i = ix2 k r := ⟨i 0, i 1, eq_ix2 (n0 := 2048) (n1 := 512) i⟩
    exact ⟨_, hs j k r⟩
  have gp : ∀ j, Good Rl (probe q kk j) := fun j i => by
    obtain ⟨k, r, rfl⟩ : ∃ (k : Fin 16) (r : Fin 512), i = ix2 k r := ⟨i 0, i 1, eq_ix2 (n0 := 16) (n1 := 512) i⟩
    exact ⟨_, (probe_apply j k r).trans (hs j _ r)⟩
  have hpre : (grid0.coords t 2).val ≠ 0 → Sums (fun j r k => s (batch t) j (query t r) k * (Real.log 2)⁻¹) (vals m c (batch t)) (t.val % 4 * 2048) mr acc :=
    fun h0 => hI t rfl (by omega)
  refine W.bind (A := bufs t) ((body_value (A := bufs t) (c := c) keeps_real gs gp (grid0.coords t) fun h0 => (hpre h0).good).mono fun _ σ hσ => W.ret ?_)
  obtain ⟨o', m0, acc0, m1, acc1, st, p, tmp, fl, rfl, hb, hst, ho⟩ := hσ
  have H := sums_step hs hvt (sums_begun hb (fun h0 => by omega) hpre) hst
  refine ⟨⟨fun _ => rfl, fun e => absurd e (by decide)⟩, ⟨fun _ => rfl, fun e => absurd e (by decide)⟩, ⟨fun _ => rfl, fun e => absurd e (by decide)⟩,
    ⟨fun _ => rfl, fun e => absurd e (by decide)⟩, ⟨fun e => absurd rfl e, fun _ X' hX => ?_⟩, fun t' e h' => ?_⟩
  · obtain rfl := eq_of_heq hX
    intro h3 r y
    obtain rfl := ho (by omega)
    show outE gc acc1 (ix3 0 r y) = _
    rw [outE_apply, hg]
    obtain ⟨μ, -, hμ⟩ := H ⟨y.val / 64, by omega⟩ r
    rw [hμ, hμ, show t.val % 4 * 2048 + 2048 = 8192 by omega]
    rw [← row_att (M := M) h ⟨y.val / 64, by omega⟩ r ⟨y.val % 64, by omega⟩ μ]
  · have et : t'.val = t.val + 1 := (congrArg Fin.val e).symm
    have eb : batch t' = batch t := Fin.ext (by show t'.val / 64 = t.val / 64; omega)
    have er : query t' = query t := funext fun r => Fin.ext (by show t'.val / 4 % 16 * 512 + _ = t.val / 4 % 16 * 512 + _; omega)
    rw [eb, er, show t'.val % 4 * 2048 = t.val % 4 * 2048 + 2048 by omega]
    exact H

end Cert.Mla

end
-- ==== Proof.Array.lean ====
/-
  The attention's array after the run.
-/
module

public import proofs.«01_k».proof.Proof.Point
public import Idealize.ShloMosaic.Lib.Pipeline.ArrRel

@[expose] public section

noncomputable section

namespace Cert.Mla

open Cert.KernelIdeal Cert.KernelIdeal.Facts Cert.KernelIdeal.Gen
open Idealize.ShloMosaic Idealize.ShloMosaic.TcCoe
open Idealize.SL.Sem
open Idealize.ShloMosaic.Pipeline (RDat Cfg Window)

variable (s : Fin 8 → Fin 8 → Fin 8192 → ℕ → ℝ) (M : Fin 8 → Fin 8 → Fin 8192 → ℝ)
variable (m : (ℓ : Loc nD τ sig) → Buf (Elt Ideal) ℓ) (ρ : Dev nD → PrngReg) (c : Dev nD)

/-- The gated attention, by batch, query and column. -/
def gated (b : Fin 8) (r : Fin 8192) (y : Fin 512) : EReal :=
  att (s b ⟨y.val / 64, by omega⟩ r) (vals m c b ⟨y.val / 64, by omega⟩ ⟨y.val % 64, by omega⟩) (M b ⟨y.val / 64, by omega⟩ r) * Ga m c (ix3 b r y)

variable {s M m c}

theorem o_at (t : Fin cfg0.N) (r y : Fin 512) : (win0_4.blk t).view.emb (ix3 0 r y) = ix3 (batch t) (query t r) y := by
  obtain ⟨-, -, -, -, h⟩ := places t
  unfold batch query
  blk_ext [h]

theorem final_o (after : (w : Fin cfg0.W) → Fin cfg0.N → (cfg0.win w).block.Idx → Elt Ideal (cfg0.win w).elt)
    (h : ∀ u, (cfg0.win 4).flush u = true → Done s M m c u (after 4 u)) :
    ((dat m (leaves s M m c) (track s m c) c).withAfter after).arrAt 4 cfg0.N = fun i : S8x8192x512.Idx => gated s M m c (i 0) (i 1) (i 2) := by
  refine ((dat m (leaves s M m c) (track s m c) c).withAfter after).arrAt_eq_of_covers 4 _ (by decide +kernel) fun t hf y => ?_
  have hd := h t hf ((flush0_4 t).mp hf)
  obtain ⟨a, r, x, rfl⟩ : ∃ (a : Fin 1) (r : Fin 512) (x : Fin 512), (y : S1x512x512.Idx) = ix3 a r x := ⟨y 0, y 1, y 2, eq_ix3 (n0 := 1) (n1 := 512) (n2 := 512) y⟩
  obtain rfl : a = 0 := Subsingleton.elim _ _
  refine (hd r x).trans ?_
  show _ = gated s M m c ((win0_4.blk t).view.emb (ix3 0 r x) 0) ((win0_4.blk t).view.emb (ix3 0 r x) 1) ((win0_4.blk t).view.emb (ix3 0 r x) 2)
  rw [o_at]
  rfl

/-- The run leaves the gated attention of the arrays its windows read, the arguments as launched. -/
theorem run_value (h : Scored s m c) : θ_run (defs (F := Ideal)) (onTc (τ := τ) (main (F := Ideal))) ⟨m, fun _ => 0, ρ⟩
    (fun r => ∀ c : Dev nD, r.2.mem ((c.tc : Thread nD τ).loc main_v18) = (fun i : S8x8192x512.Idx => gated s M m c (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have one : ∀ c' : Dev nD, c' = c := fun c' => Subsingleton.elim (α := Fin 1) c' c
  have h0 : ∀ mr acc, track s m c 0 mr acc := fun mr acc t e h' => absurd (congrArg Fin.val e).symm (by show t.val ≠ 0; omega)
  refine (θ_run _ _ _).mono (fun r hr c' => ?_) (run_main m ρ (leaves s M m c) (track s m c) h0 fun c' => by rw [one c']; exact point_value h)
  obtain rfl := one c'
  obtain ⟨after, hL, hA⟩ := hr.1.exists_exact c'
  refine ⟨(hA 4).trans (final_o after fun u hu => ?_),
    ((hr.1 c').2 main_arg0 (Pipeline.mem_restRefs_of main_arg0 (by decide) (by decide))).trans (V_main_arg0 m c'),
    ((hr.1 c').2 main_arg1 (Pipeline.mem_restRefs_of main_arg1 (by decide) (by decide))).trans (V_main_arg1 m c'),
    ((hr.1 c').2 main_arg2 (Pipeline.mem_restRefs_of main_arg2 (by decide) (by decide))).trans (V_main_arg2 m c'),
    ((hr.1 c').2 main_arg3 (Pipeline.mem_restRefs_of main_arg3 (by decide) (by decide))).trans (V_main_arg3 m c'),
    ((hr.1 c').2 main_arg4 (Pipeline.mem_restRefs_of main_arg4 (by decide) (by decide))).trans (V_main_arg4 m c'),
    ((hr.1 c').2 main_arg5 (Pipeline.mem_restRefs_of main_arg5 (by decide) (by decide))).trans (V_main_arg5 m c')⟩
  obtain ⟨Y, -, hY⟩ := hL 4 u hu
  exact hY.2 rfl _ HEq.rfl

end Cert.Mla

end
-- ==== Proof.Host.lean ====
/-
  The arrays that the attention's windows read, as the host lines prepare them from the arguments.
-/
module

public import proofs.«01_k».proof.Proof.Blocks
public import Idealize.ShloMosaic.Lib.StableHlo.RunRead
public import Idealize.ShloMosaic.Lib.Pointwise

@[expose] public section

noncomputable section

namespace Cert.Mla

open Cert.KernelIdeal Cert.KernelIdeal.Facts Cert.KernelIdeal.Gen
open Idealize.ShloMosaic Idealize.ShloMosaic.TcCoe

variable (m : (ℓ : Loc nD τ sig) → Buf (Elt Ideal) ℓ) (c : Dev nD)

/-- The scale of the queries. -/
abbrev scaleE : EReal := Ideal.ofBits .f32 0x3DD105EC#32

/-- The zeros that pad a head to 128 columns. -/
def zeros : Vec Ideal S8x8192x8x32 .bf16 := broadcastInDim S8x8192x8x32 ![] bcast_S_S8x8192x8x32 (constant (F := Ideal) S_ .bf16 0x0000#16)

/-- A head's parts side by side. -/
def joined (a : Vec Ideal S8x8192x8x64 .bf16) (b : Vec Ideal S8x8192x8x32 .bf16) : Vec Ideal S8x8192x8x128 .bf16 :=
  concatenate S8x8192x8x128 3 [⟨S8x8192x8x64, a⟩, ⟨S8x8192x8x32, b⟩, ⟨S8x8192x8x32, zeros⟩] concatenates_S8x8192x8x64_S8x8192x8x32_S8x8192x8x32_S8x8192x8x128_d3

def scaled (x : Vec Ideal S8x8192x8x128 .bf16) : Vec Ideal S8x8192x8x128 .bf16 :=
  truncf .bf16 (mulf (extf .f32 x bitsLt_bf16_f32) (broadcastInDim S8x8192x8x128 ![] bcast_S_S8x8192x8x128 (constant (F := Ideal) S_ .f32 0x3DD105EC#32))) bitsLt_bf16_f32

def shared (x : Vec Ideal S8x8192x32 .bf16) : Vec Ideal S8x8192x8x32 .bf16 :=
  broadcastInDim S8x8192x8x32 ![0, 1, 2, 3] bcast_S8x8192x1x32_S8x8192x8x32_0_1_2_3 (broadcastInDim S8x8192x1x32 ![0, 1, 3] bcast_S8x8192x32_S8x8192x1x32_0_1_3 x)

/-- The values by head and column, the rows of ones beneath. -/
def stacked (v : Vec Ideal S8x8192x8x64 .bf16) : Vec Ideal S8x8x80x8192 .bf16 :=
  concatenate S8x8x80x8192 2 [⟨S8x8x64x8192, transpose S8x8x64x8192 [0, 2, 3, 1] v transposes_S8x8192x8x64_S8x8x64x8192_0_2_3_1⟩,
    ⟨S8x8x16x8192, broadcastInDim S8x8x16x8192 ![] bcast_S_S8x8x16x8192 (constant (F := Ideal) S_ .bf16 0x3F80#16)⟩] concatenates_S8x8x64x8192_S8x8x16x8192_S8x8x80x8192_d2

theorem Qa_eq : Qa m c = shapeCast S8x8192x1024 (scaled (joined (m (c, main_arg0)) (m (c, main_arg1)))) shapeCasts_S8x8192x8x128_S8x8192x1024 := by
  show V m c main_v15 = _
  unfold V
  after_reads_simp
  rfl

theorem Ka_eq : Ka m c = shapeCast S8x8192x1024 (joined (m (c, main_arg2)) (shared (m (c, main_arg3)))) shapeCasts_S8x8192x8x128_S8x8192x1024 := by
  show V m c main_v16 = _
  unfold V
  after_reads_simp
  rfl

theorem Va_eq : Va m c = shapeCast S8x640x8192 (stacked (m (c, main_arg4))) shapeCasts_S8x8x80x8192_S8x640x8192 := by
  show V m c main_v17 = _
  unfold V
  after_reads_simp
  rfl

/-- A gate's value. -/
def gate (x : EReal) : EReal := x * Ideal.div (Ideal.ofBits .f32 0x3F800000#32) (Ideal.ofBits .f32 0x3F800000#32 + Ideal.exp (-x))

theorem Ga_eq : Ga m c = fun i => gate ((m (c, main_arg5) : Vec Ideal S8x8192x512 .bf16) i) := by
  show V m c main_v14 = _
  unfold V
  after_reads_simp
  rfl

theorem joined_nope (a : Vec Ideal S8x8192x8x64 .bf16) (b : Vec Ideal S8x8192x8x32 .bf16) (p : Fin 8) (r : Fin 8192) (j : Fin 8) (d : Fin 64) :
    joined a b (ix4 p r j ⟨d.val, by omega⟩) = a (ix4 p r j d) := by
  unfold joined
  pointwise []

theorem joined_rope (a : Vec Ideal S8x8192x8x64 .bf16) (b : Vec Ideal S8x8192x8x32 .bf16) (p : Fin 8) (r : Fin 8192) (j : Fin 8) (d : Fin 32) :
    joined a b (ix4 p r j ⟨64 + d.val, by omega⟩) = b (ix4 p r j d) := by
  unfold joined
  pointwise []

theorem joined_pad (a : Vec Ideal S8x8192x8x64 .bf16) (b : Vec Ideal S8x8192x8x32 .bf16) (p : Fin 8) (r : Fin 8192) (j : Fin 8) (d : Fin 32) :
    joined a b (ix4 p r j ⟨96 + d.val, by omega⟩) = 0 := by
  unfold joined zeros
  pointwise []
  rw [dif_neg (by omega), dif_neg (by omega)]

theorem stacked_row (v : Vec Ideal S8x8192x8x64 .bf16) (p j : Fin 8) (x : Fin 64) (t : Fin 8192) : stacked v (ix4 p j ⟨x.val, by omega⟩ t) = v (ix4 p t j x) := by
  unfold stacked
  pointwise []

theorem stacked_one (v : Vec Ideal S8x8192x8x64 .bf16) (p j : Fin 8) (t : Fin 8192) : stacked v (ix4 p j 64 t) = 1 := by
  unfold stacked
  pointwise []

theorem shared_apply (x : Vec Ideal S8x8192x32 .bf16) (p : Fin 8) (r : Fin 8192) (j : Fin 8) (d : Fin 32) : shared x (ix4 p r j d) = x (ix3 p r d) := by
  unfold shared
  pointwise []

theorem flat_head (x : Vec Ideal S8x8192x8x128 .bf16) (p : Fin 8) (r : Fin 8192) (j : Fin 8) (d : Fin 128) :
    shapeCast S8x8192x1024 x shapeCasts_S8x8192x8x128_S8x8192x1024 (ix3 p r ⟨128 * j.val + d.val, by omega⟩) = x (ix4 p r j d) := by
  pointwise []

theorem flat_rows (x : Vec Ideal S8x8x80x8192 .bf16) (p j : Fin 8) (y : Fin 80) (t : Fin 8192) :
    shapeCast S8x640x8192 x shapeCasts_S8x8x80x8192_S8x640x8192 (ix3 p ⟨80 * j.val + y.val, by omega⟩ t) = x (ix4 p j y t) := by
  pointwise []

end Cert.Mla

end
-- ==== Proof.Prep.lean ====
/-
  The scores of the prepared arrays are the arguments' scores.
-/
module

public import proofs.«01_k».proof.Proof.Host
public import proofs.«01_k».proof.Proof.Point

@[expose] public section

noncomputable section

namespace Cert.Mla

open Cert.KernelIdeal Cert.KernelIdeal.Facts Cert.KernelIdeal.Gen
open Idealize.ShloMosaic Idealize.ShloMosaic.TcCoe

/-- A sum over a padded head is its three parts'. -/
theorem sum_head (f : Fin 128 → EReal) : ∑ d, f d = ∑ d : Fin 64, f ⟨d.val, by omega⟩ + ∑ d : Fin 32, f ⟨64 + d.val, by omega⟩ + ∑ d : Fin 32, f ⟨96 + d.val, by omega⟩ := by
  refine (Fin.sum_univ_add (a := 96) (b := 32) f).trans ?_
  rw [Fin.sum_univ_add (a := 64) (b := 32)]
  rfl

/-- The score of a key at a query, of real arguments. -/
def score (a0 : S8x8192x8x64.Idx → ℝ) (a1 : S8x8192x8x32.Idx → ℝ) (a2 : S8x8192x8x64.Idx → ℝ) (a3 : S8x8192x32.Idx → ℝ) (k : ℝ) (p j : Fin 8) (r t : Fin 8192) : ℝ :=
  (∑ d : Fin 64, a0 (ix4 p r j d) * a2 (ix4 p t j d) + ∑ d : Fin 32, a3 (ix3 p t d) * a1 (ix4 p r j d)) * k

/-- The scores by a key's number. -/
def scores (a0 : S8x8192x8x64.Idx → ℝ) (a1 : S8x8192x8x32.Idx → ℝ) (a2 : S8x8192x8x64.Idx → ℝ) (a3 : S8x8192x32.Idx → ℝ) (k : ℝ) (p j : Fin 8) (r : Fin 8192) (t : ℕ) : ℝ :=
  if h : t < 8192 then score a0 a1 a2 a3 k p j r ⟨t, h⟩ else 0

variable {m : (ℓ : Loc nD τ sig) → Buf (Elt Ideal) ℓ} {c : Dev nD}
variable {a0 : S8x8192x8x64.Idx → ℝ} {a1 : S8x8192x8x32.Idx → ℝ} {a2 : S8x8192x8x64.Idx → ℝ} {a3 : S8x8192x32.Idx → ℝ} {k : ℝ}

theorem scores_at (p j : Fin 8) (r t : Fin 8192) : scores a0 a1 a2 a3 k p j r t.val = score a0 a1 a2 a3 k p j r t := dif_pos t.isLt

/-- The extended reals' score of real arguments is their score. -/
theorem coe_score {x0 : Vec Ideal S8x8192x8x64 .bf16} {x1 : Vec Ideal S8x8192x8x32 .bf16} {x2 : Vec Ideal S8x8192x8x64 .bf16} {x3 : Vec Ideal S8x8192x32 .bf16}
    (h0 : ∀ i, x0 i = (a0 i : EReal)) (h1 : ∀ i, x1 i = (a1 i : EReal)) (h2 : ∀ i, x2 i = (a2 i : EReal)) (h3 : ∀ i, x3 i = (a3 i : EReal)) (hk : scaleE = (k : EReal)) (p j : Fin 8) (r t : Fin 8192) :
    ((∑ d : Fin 64, x0 (ix4 p r j d) * x2 (ix4 p t j d)) + ∑ d : Fin 32, x3 (ix3 p t d) * x1 (ix4 p r j d)) * scaleE = ((score a0 a1 a2 a3 k p j r t : ℝ) : EReal) := by
  simp only [h0, h1, h2, h3, hk, score, EReal.coe_mul, EReal.coe_add, coe_sum_real]

/-- The padded heads' products, of real arguments. -/
theorem padded_score {x0 : Vec Ideal S8x8192x8x64 .bf16} {x1 : Vec Ideal S8x8192x8x32 .bf16} {x2 : Vec Ideal S8x8192x8x64 .bf16} {x3 : Vec Ideal S8x8192x32 .bf16}
    (h0 : ∀ i, x0 i = (a0 i : EReal)) (h1 : ∀ i, x1 i = (a1 i : EReal)) (h2 : ∀ i, x2 i = (a2 i : EReal)) (h3 : ∀ i, x3 i = (a3 i : EReal)) (hk : scaleE = (k : EReal)) (p j : Fin 8) (r t : Fin 8192) :
    ∑ d : Fin 128, joined x2 (shared x3) (ix4 p t j d) * (joined x0 x1 (ix4 p r j d) * scaleE) = ((score a0 a1 a2 a3 k p j r t : ℝ) : EReal) := by
  rw [sum_head]
  simp only [joined_nope, joined_rope, joined_pad, shared_apply, zero_mul, Finset.sum_const_zero, add_zero]
  simp only [h0, h1, h2, h3, hk, ← EReal.coe_mul, ← coe_sum_real, ← EReal.coe_add]
  refine congrArg _ ?_
  unfold score
  rw [add_mul, Finset.sum_mul, Finset.sum_mul]
  exact congrArg₂ (· + ·) (Finset.sum_congr rfl fun d _ => by ring) (Finset.sum_congr rfl fun d _ => by ring)

theorem scored (h0 : ∀ i, (m (c, main_arg0) : Vec Ideal S8x8192x8x64 .bf16) i = (a0 i : EReal)) (h1 : ∀ i, (m (c, main_arg1) : Vec Ideal S8x8192x8x32 .bf16) i = (a1 i : EReal))
    (h2 : ∀ i, (m (c, main_arg2) : Vec Ideal S8x8192x8x64 .bf16) i = (a2 i : EReal)) (h3 : ∀ i, (m (c, main_arg3) : Vec Ideal S8x8192x32 .bf16) i = (a3 i : EReal)) (hk : scaleE = (k : EReal)) :
    Scored (scores a0 a1 a2 a3 k) m c where
  score p j r t := by
    rw [scores_at, Qa_eq, Ka_eq]
    exact (Finset.sum_congr rfl fun d _ => congrArg₂ (· * ·) (flat_head _ p t j d) (flat_head _ p r j d)).trans (padded_score h0 h1 h2 h3 hk p j r t)
  ones p j t := by
    rw [Va_eq]
    exact (flat_rows _ p j 64 t).trans (stacked_one _ p j t)

theorem vals_row (p j : Fin 8) (x : Fin 64) (t : Fin 8192) : vals m c p j ⟨x.val, by omega⟩ t.val = (m (c, main_arg4) : Vec Ideal S8x8192x8x64 .bf16) (ix4 p t j x) := by
  rw [vals_lt t.isLt, Va_eq]
  exact (flat_rows _ p j ⟨x.val, by omega⟩ t).trans (stacked_row _ p j x t)

theorem scale_real : ∃ k : ℝ, scaleE = (k : EReal) := by
  unfold scaleE Ideal.ofBits Ideal.ieee
  exact ⟨_, rfl⟩

end Cert.Mla

end
-- ==== Proof.Ref.lean ====
/-
  The reference's attention, by batch, query and column.
-/
module

public import proofs.«01_k».proof.Proof.Gen.ReferenceIdeal.Read
public import proofs.«01_k».proof.Proof.Soft
public import Idealize.ShloMosaic.Lib.KernelVsHost
public import Idealize.ShloMosaic.Lib.Pointwise
public import Idealize.ShloMosaic.Lib.Pipeline.ValueKit

@[expose] public section

noncomputable section

namespace Cert.Mla.Ref

open Cert.ReferenceIdeal Cert.ReferenceIdeal.Read
open Idealize.ShloMosaic

variable (x0 : Vec Ideal S8x8192x8x64 .bf16) (x1 : Vec Ideal S8x8192x8x32 .bf16) (x2 : Vec Ideal S8x8192x8x64 .bf16) (x3 : Vec Ideal S8x8192x32 .bf16)
variable (x4 : Vec Ideal S8x8192x8x64 .bf16) (x5 : Vec Ideal S8x8192x512 .bf16)

theorem at_nope (p j : Fin 8) (r t : Fin 8192) (d : Fin 64) : lidx_main_v0 (ix4 p j r t) d = ix4 p r j d ∧ ridx_main_v0 (ix4 p j r t) d = ix4 p t j d :=
  ⟨funext fun a => by fin_cases a <;> rfl, funext fun a => by fin_cases a <;> rfl⟩

theorem at_rope (p j : Fin 8) (r t : Fin 8192) (d : Fin 32) : lidx_main_v2 (ix4 p t r j) d = ix3 p t d ∧ ridx_main_v2 (ix4 p t r j) d = ix4 p r j d :=
  ⟨funext fun a => by fin_cases a <;> rfl, funext fun a => by fin_cases a <;> rfl⟩

theorem at_key (p j : Fin 8) (r : Fin 8192) (x : Fin 64) (k : Fin 8192) : lidx_main_v21 (ix4 p j x r) k = ix4 p k j x ∧ ridx_main_v21 (ix4 p j x r) k = ix4 p j r k
    ∧ idx_main_v16 (ix3 p j r) k = ix4 p j r k :=
  ⟨funext fun a => by fin_cases a <;> rfl, funext fun a => by fin_cases a <;> rfl, funext fun a => by fin_cases a <;> rfl⟩

/-- The reference's scores. -/
theorem score_ref (p j : Fin 8) (r t : Fin 8192) : val_main_v8 x0 x1 x2 x3 (ix4 p j r t) =
    ((∑ d : Fin 64, x0 (ix4 p r j d) * x2 (ix4 p t j d)) + ∑ d : Fin 32, x3 (ix3 p t d) * x1 (ix4 p r j d)) * Ideal.ofBits .f32 0x3DD105EC#32 := by
  pointwise [val_main_v8, val_main_v7, val_main_v6, val_main_v5, val_main_v4, val_main_v3, val_main_v1, val_main_v0_apply, val_main_v2_apply, val_main_cst, (at_nope _ _ _ _ _).1, (at_nope _ _ _ _ _).2, (at_rope _ _ _ _ _).1, (at_rope _ _ _ _ _).2]

variable {x0 x1 x2 x3}

theorem reduces_keys : S8x8x8192x8192.Reduces [3] S8x8x8192 := by decide

/-- Where the scores are real, so is the reference that the softmax subtracts. -/
theorem ref_real (h : ∀ i, ∃ r : ℝ, val_main_v8 x0 x1 x2 x3 i = (r : EReal)) (i : S8x8x8192.Idx) : ∃ r : ℝ, val_main_v11 x0 x1 x2 x3 i = (r : EReal) := by
  have hr : ∃ r : ℝ, val_main_v9 x0 x1 x2 x3 i = (r : EReal) := by
    unfold val_main_v9
    generalize val_main_v8 x0 x1 x2 x3 = X at h
    unfold val_main_cst_0
    have e := hostReduce_maximumf_eq_multiReduction (F := Ideal) (s := S8x8x8192x8192) (φ := .f32) X 0xFF800000#32 Gen.reducesTo_S8x8x8192x8192_S8x8x8192_d3 Gen.h_S_ reduces_keys (.inl rfl) rfl
    obtain ⟨r, hr⟩ := real_reduce (a := (3 : Fin S8x8x8192x8192.rank)) reduces_keys X h (⟨0, by decide⟩ : Fin (S8x8x8192x8192.size 3)) (.inl rfl) rfl i
    exact ⟨r, (congrFun e i).trans hr⟩
  obtain ⟨r, hr⟩ := hr
  refine ⟨r, ?_⟩
  rw [val_main_v11_apply, hr]
  show max (Ideal.ofBits .f32 0xFF800000#32) (r : EReal) = r
  rw [ofBits_neg_inf]
  exact max_eq_right bot_le

/-- A row of the reference's attention. -/
theorem row_ref (p j : Fin 8) (r : Fin 8192) (x : Fin 64) : val_main_v21 x0 x1 x2 x3 x4 (ix4 p j x r) = ∑ k : Fin 8192, x4 (ix4 p k j x) *
    Ideal.div (Ideal.exp (val_main_v8 x0 x1 x2 x3 (ix4 p j r k) - val_main_v11 x0 x1 x2 x3 (ix3 p j r)))
      (0 + ∑ k : Fin 8192, Ideal.exp (val_main_v8 x0 x1 x2 x3 (ix4 p j r k) - val_main_v11 x0 x1 x2 x3 (ix3 p j r))) := by
  pointwise [val_main_v21_apply, val_main_v20, val_main_v19, val_main_v18, val_main_v17, val_main_v16_apply, val_main_v15, val_main_v14, val_main_v13, val_main_v12, val_main_cst_2]
  simp only [(at_key p j r x _).1, (at_key p j r x _).2.1, (at_key p j r x _).2.2]

theorem out_ref (p : Fin 8) (r : Fin 8192) (y : Fin 512) : val_main_v26 x0 x1 x2 x3 x4 x5 (ix3 p r y) =
    val_main_v21 x0 x1 x2 x3 x4 (ix4 p ⟨y.val / 64, by omega⟩ ⟨y.val % 64, by omega⟩ r) *
      (x5 (ix3 p r y) * Ideal.div (Ideal.ofBits .f32 0x3F800000#32) (Ideal.ofBits .f32 0x3F800000#32 + Ideal.exp (-x5 (ix3 p r y)))) := by
  pointwise [val_main_v26, val_main_v25, val_main_v24, val_main_v23, val_main_v22, val_main_call0_v5, val_main_call0_v4, val_main_call0_v3, val_main_call0_v2, val_main_call0_v1, val_main_call0_v0, val_main_call0_cst, val_main_call0_cst_0]

end Cert.Mla.Ref

end
-- ==== Proof.Value.lean ====
/-
  The attention: the kernel and the reference compute the same array where the queries and keys are finite.
-/
module

public import proofs.«01_k».proof.Defs
public import proofs.«01_k».proof.Proof.Array
public import proofs.«01_k».proof.Proof.Prep
public import proofs.«01_k».proof.Proof.Ref
public import proofs.«01_k».proof.Proof.Gen.KernelIdeal
public import proofs.«01_k».proof.Proof.Gen.ReferenceIdeal
public import proofs.«01_k».proof.Proof.Gen.Pre_finite_scores

@[expose] public section

noncomputable section

namespace Cert.Mla

open Cert.KernelIdeal Cert.KernelIdeal.Gen
open Idealize.ShloMosaic Idealize.ShloMosaic.TcCoe Idealize.SL.Sem

/-- What compares below infinity in absolute value is a real number. -/
theorem real_of_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | coe r => exact ⟨r, rfl⟩
  | bot => simp [Ideal.cmp] at h
  | top => simp [Ideal.cmp] at h

variable {m : (ℓ : Loc nD τ sig) → Buf (Elt Ideal) ℓ}

theorem pre_real (h : Cert.Pre_KernelIdeal_finite_scores m) (c : Dev nD) :
    (∀ i, ∃ r : ℝ, (m (c, main_arg0) : Vec Ideal S8x8192x8x64 .bf16) i = (r : EReal)) ∧ (∀ i, ∃ r : ℝ, (m (c, main_arg1) : Vec Ideal S8x8192x8x32 .bf16) i = (r : EReal))
    ∧ (∀ i, ∃ r : ℝ, (m (c, main_arg2) : Vec Ideal S8x8192x8x64 .bf16) i = (r : EReal)) ∧ ∀ i, ∃ r : ℝ, (m (c, main_arg3) : Vec Ideal S8x8192x32 .bf16) i = (r : EReal) :=
  have ⟨h0, h1, h2, h3⟩ := h c
  ⟨fun i => real_of_lt (congrFun h0 i), fun i => real_of_lt (congrFun h1 i), fun i => real_of_lt (congrFun h2 i), fun i => real_of_lt (congrFun h3 i)⟩

variable {c : Dev nD} {a0 : S8x8192x8x64.Idx → ℝ} {a1 : S8x8192x8x32.Idx → ℝ} {a2 : S8x8192x8x64.Idx → ℝ} {a3 : S8x8192x32.Idx → ℝ} {k : ℝ}

/-- The reference's array at the arguments. -/
abbrev refArray (m : (ℓ : Loc nD τ sig) → Buf (Elt Ideal) ℓ) (c : Dev nD) : Vec Ideal S8x8192x512 .bf16 :=
  Cert.ReferenceIdeal.Read.val_main_v26 (F := Ideal) (m (c, main_arg0)) (m (c, main_arg1)) (m (c, main_arg2)) (m (c, main_arg3)) (m (c, main_arg4)) (m (c, main_arg5))

/-- The reference's scores at the arguments, real. -/
theorem ref_scores (h0 : ∀ i, (m (c, main_arg0) : Vec Ideal S8x8192x8x64 .bf16) i = (a0 i : EReal)) (h1 : ∀ i, (m (c, main_arg1) : Vec Ideal S8x8192x8x32 .bf16) i = (a1 i : EReal))
    (h2 : ∀ i, (m (c, main_arg2) : Vec Ideal S8x8192x8x64 .bf16) i = (a2 i : EReal)) (h3 : ∀ i, (m (c, main_arg3) : Vec Ideal S8x8192x32 .bf16) i = (a3 i : EReal)) (hk : scaleE = (k : EReal)) (p j : Fin 8) (r t : Fin 8192) :
    Cert.ReferenceIdeal.Read.val_main_v8 (F := Ideal) (m (c, main_arg0)) (m (c, main_arg1)) (m (c, main_arg2)) (m (c, main_arg3)) (ix4 p j r t) = ((scores a0 a1 a2 a3 k p j r t.val : ℝ) : EReal) := by
  rw [scores_at]
  exact (Ref.score_ref _ _ _ _ p j r t).trans (coe_score h0 h1 h2 h3 hk p j r t)

/-- The kernel's array is the reference's, at some references of the rows. -/
theorem same (h0 : ∀ i, (m (c, main_arg0) : Vec Ideal S8x8192x8x64 .bf16) i = (a0 i : EReal)) (h1 : ∀ i, (m (c, main_arg1) : Vec Ideal S8x8192x8x32 .bf16) i = (a1 i : EReal))
    (h2 : ∀ i, (m (c, main_arg2) : Vec Ideal S8x8192x8x64 .bf16) i = (a2 i : EReal)) (h3 : ∀ i, (m (c, main_arg3) : Vec Ideal S8x8192x32 .bf16) i = (a3 i : EReal)) (hk : scaleE = (k : EReal)) :
    ∃ M : Fin 8 → Fin 8 → Fin 8192 → ℝ, (fun i : S8x8192x512.Idx => gated (scores a0 a1 a2 a3 k) M m c (i 0) (i 1) (i 2)) = refArray m c := by
  have hs := ref_scores h0 h1 h2 h3 hk
  have hr : ∀ p j r, ∃ μ : ℝ, Cert.ReferenceIdeal.Read.val_main_v11 (F := Ideal) (m (c, main_arg0)) (m (c, main_arg1)) (m (c, main_arg2)) (m (c, main_arg3)) (ix3 p j r) = (μ : EReal) := fun p j r =>
    Ref.ref_real (fun i => by
      obtain ⟨p, j, r, t, rfl⟩ : ∃ (p j : Fin 8) (r t : Fin 8192), i = ix4 p j r t := ⟨i 0, i 1, i 2, i 3, eq_ix4 (n0 := 8) (n1 := 8) (n2 := 8192) (n3 := 8192) i⟩
      exact ⟨_, hs p j r t⟩) _
  choose M hM using hr
  refine ⟨M, funext fun i => ?_⟩
  obtain ⟨p, r, y, rfl⟩ : ∃ (p : Fin 8) (r : Fin 8192) (y : Fin 512), i = ix3 p r y := ⟨i 0, i 1, i 2, eq_ix3 (n0 := 8) (n1 := 8192) (n2 := 512) i⟩
  refine Eq.trans ?_ (Ref.out_ref _ _ p r y).symm
  show gated _ M m c p r y = _
  unfold gated
  rw [Ga_eq]
  have e : Cert.ReferenceIdeal.Read.val_main_v21 (F := Ideal) (m (c, main_arg0)) (m (c, main_arg1)) (m (c, main_arg2)) (m (c, main_arg3)) (m (c, main_arg4)) (ix4 p ⟨y.val / 64, by omega⟩ ⟨y.val % 64, by omega⟩ r) = _ :=
    Ref.row_ref _ p ⟨y.val / 64, by omega⟩ r ⟨y.val % 64, by omega⟩
  rw [e, hM]
  refine congrArg₂ (fun a b : EReal => a * b) ?_ rfl
  unfold att
  simp only [hs]
  exact Finset.sum_congr rfl fun t _ => congrArg₂ (fun a b : EReal => a * b) (vals_row p ⟨y.val / 64, by omega⟩ ⟨y.val % 64, by omega⟩ t) rfl

/-- Over the extended reals, the kernel's gated attention of finite queries and keys is the reference's. -/
theorem value : Cert.algebraic_KernelIdeal_ReferenceIdeal_pre_finite_scores := by
  intro m g m' g' hpre heq
  refine ⟨refArray m, ?_, ?_⟩
  · have one : ∀ c : Dev nD, c = 0 := fun c => Subsingleton.elim (α := Fin 1) c 0
    obtain ⟨r0, r1, r2, r3⟩ := pre_real hpre 0
    choose a0 h0 using r0
    choose a1 h1 using r1
    choose a2 h2 using r2
    choose a3 h3 using r3
    obtain ⟨k, hk⟩ := scale_real
    obtain ⟨M, hM⟩ := same h0 h1 h2 h3 hk
    refine (θ_run _ _ _).mono (fun r h c => ?_) (run_value (M := M) g (scored h0 h1 h2 h3 hk))
    obtain ⟨ho, h⟩ := h c
    obtain rfl := one c
    exact ⟨ho.trans hM, h⟩
  · refine (θ_run _ _ _).mono (fun r h c => ?_) (Cert.ReferenceIdeal.Value.run m' g')
    obtain ⟨b0, b1, b2, b3, b4, b5⟩ := heq c
    obtain ⟨ho, h⟩ := h c
    refine ⟨ho.trans ((Cert.ReferenceIdeal.Read.val_main_v26_eq m' c).trans ?_), h⟩
    rw [b0, b1, b2, b3, b4, b5]

end Cert.Mla

end
-- ==== Proof.Tail.Spec.lean ====
/-
  The layer's tail as a function of its arrays: output projection, normalised residual, gated embedding.
-/
module

public import Idealize.ShloMosaic.Lib.Pipeline.ValueKit

@[expose] public section

noncomputable section

namespace Cert.Mla.Tail

open Idealize.ShloMosaic

/-- The mixers' output through the output projection, at one token: the first half of the weight's rows for `a`, the second for `c`. -/
def mixed (a c : Fin 512 → EReal) (w : Fin 1024 → Fin 1024 → EReal) (j : Fin 1024) : EReal :=
  (∑ k : Fin 512, a k * w ⟨k.val, by omega⟩ j) + ∑ k : Fin 512, c k * w ⟨512 + k.val, by omega⟩ j

/-- A row normalised by the root of its mean square, with gain `g`. -/
def normed (o g : Fin 1024 → EReal) (j : Fin 1024) : EReal :=
  o j * Ideal.rsqrt (Ideal.div (∑ k, o k * o k) (Ideal.ofBits .f32 0x44800000#32) + Ideal.ofBits .f32 0x358637BD#32) * g j

/-- The residual stream after the mixers' output is added. -/
def added (o x g : Fin 1024 → EReal) (j : Fin 1024) : EReal := x j + normed o g j

/-- The layer's output at one token: the residual stream `y` plus the gated embedding. -/
def gated (y : Fin 1024 → EReal) (p : Fin 256 → EReal) (wg : Fin 1024 → Fin 1024 → EReal) (wp : Fin 256 → Fin 1024 → EReal) (j : Fin 1024) : EReal :=
  y j + Ideal.logistic (∑ k, y k * wg k j) * ∑ k, p k * wp k j

/-- The second layer's tail, of the mixers' outputs `a` and `c`, the residual stream `x`, the embeddings `p` and the weights. -/
def tailOut (a c : (⟨2, ![65536, 512]⟩ : Shape).Idx → EReal) (x : (⟨2, ![65536, 1024]⟩ : Shape).Idx → EReal)
    (p : (⟨3, ![2, 65536, 256]⟩ : Shape).Idx → EReal) (wo : (⟨3, ![1, 1024, 1024]⟩ : Shape).Idx → EReal)
    (g : (⟨2, ![2, 1024]⟩ : Shape).Idx → EReal) (wg : (⟨3, ![2, 1024, 1024]⟩ : Shape).Idx → EReal)
    (wp : (⟨3, ![2, 256, 1024]⟩ : Shape).Idx → EReal) (t : Fin 65536) (j : Fin 1024) : EReal :=
  gated (added (mixed (fun k => a (ix2 t k)) (fun k => c (ix2 t k)) fun k j => wo (ix3 0 k j)) (fun j => x (ix2 t j)) fun j => g (ix2 1 j))
    (fun k => p (ix3 1 t k)) (fun k j => wg (ix3 1 k j)) (fun k j => wp (ix3 1 k j)) j

end Cert.Mla.Tail

end
-- ==== Proof.Tail.Block.lean ====
/-
  What the kernel computes of one block of rows.
-/
module

public import proofs.«01_k».proof.Proof.Tail.Spec
public import proofs.«01_k».proof.Proof.Gen.Kernel2Ideal.Value

@[expose] public section

noncomputable section

namespace Cert.Mla.Tail

open Cert.Kernel2Ideal Cert.Kernel2Ideal.Gen
open Idealize.ShloMosaic Idealize.ShloMosaic.TcCoe

/-- The residual stream after the mixers' output is added, as the block computes it. -/
theorem pay2_apply (x0 x1 : Vec Ideal S1024x512 .bf16) (w0 w1 : Vec Ideal S512x1024 .bf16) (x2 : Vec Ideal S1024x1024 .f32) (x5 : Vec Ideal S1x1024 .f32)
    (r j : Fin 1024) : k0_pay2 x0 w0 x1 w1 x2 x5 (ix2 r j) =
      added (fun j => (∑ k : Fin 512, x0 (ix2 r k) * w0 (ix2 k j)) + ∑ k : Fin 512, x1 (ix2 r k) * w1 (ix2 k j))
        (fun j => x2 (ix2 r j)) (fun j => x5 (ix2 0 j)) j := by
  pointwise [k0_pay2, added, normed]

/-- What a block of rows computes. -/
theorem out_apply (x0 x1 : Vec Ideal S1024x512 .bf16) (x2 : Vec Ideal S1024x1024 .f32) (x3 : Vec Ideal S1x1024x256 .f32)
    (w : Vec Ideal S1024x1024 .bf16) (g : Vec Ideal S1x1024 .f32) (wg : Vec Ideal S1024x1024 .bf16) (wp : Vec Ideal S256x1024 .bf16) (r j : Fin 1024) :
    out0_8 x0 x1 x2 x3 w g wg wp (ix2 r j) =
      gated (added (mixed (fun k => x0 (ix2 r k)) (fun k => x1 (ix2 r k)) fun k j => w (ix2 k j)) (fun j => x2 (ix2 r j)) fun j => g (ix2 0 j))
        (fun k => x3 (ix3 0 r k)) (fun k j => wg (ix2 k j)) (fun k j => wp (ix2 k j)) j := by
  unfold out0_8
  frame_out
  pointwise [k0_pay1, k0_pay3, k0_pay4, gated, pay2_apply]
  rfl

end Cert.Mla.Tail

end
-- ==== Proof.Tail.Array.lean ====
/-
  What the output array holds after the run.
-/
module

public import proofs.«01_k».proof.Proof.Tail.Block

@[expose] public section

noncomputable section

namespace Cert.Mla.Tail

open Cert.Kernel2Ideal Cert.Kernel2Ideal.Gen
open Idealize.ShloMosaic Idealize.ShloMosaic.TcCoe

variable (m : (ℓ : Loc nD τ sig) → Buf (Elt Ideal) ℓ)

/-- The windows' places: a block of rows per grid point, and the weights whole. -/
theorem idx : ∀ t : Fin cfg0.N, win0_0.index t = ![t.val, 0] ∧ win0_1.index t = ![t.val, 0] ∧ win0_2.index t = ![t.val, 0]
    ∧ win0_3.index t = ![1, t.val, 0] ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

/-- What one grid point writes back is its rows of the result. -/
theorem point (c : Dev nD) (t : Fin cfg0.N) (y : S1024x1024.Idx) :
    out0_8 (iblk m c 0 t) (iblk m c 1 t) (iblk m c 2 t) (iblk m c 3 t) (iblk m c 4 t) (iblk m c 5 t) (iblk m c 6 t) (iblk m c 7 t) y =
      tailOut (m (c, main_arg0)) (m (c, main_arg1)) (m (c, main_arg2)) (m (c, main_arg3)) (m (c, main_arg4)) (m (c, main_arg5)) (m (c, main_arg6))
      (m (c, main_arg7)) ((win0_8.blk t).view.emb y 0) ((win0_8.blk t).view.emb y 1) := by
  obtain ⟨h0, h1, h2, h3, h4, h5, h6, h7, h8⟩ := idx t
  obtain ⟨r, j, rfl⟩ : ∃ r j : Fin 1024, y = ix2 r j := ⟨y 0, y 1, eq_ix2 y⟩
  have e1 : (win0_8.blk t).view.emb (ix2 r j) 1 = j := by
    apply Fin.ext
    blk_simp [h8]
  refine (out_apply _ _ _ _ _ _ _ _ _ _).trans ?_
  rw [e1]
  unfold tailOut
  blk_point [iblk, V, h0, h1, h2, h3, h4, h5, h6, h7, h8]

/-- The output array after the run. -/
theorem final (c : Dev nD) : (dats m 0 c).arrAt 8 cfg0.N = fun i : S65536x1024.Idx =>
    tailOut (m (c, main_arg0)) (m (c, main_arg1)) (m (c, main_arg2)) (m (c, main_arg3)) (m (c, main_arg4)) (m (c, main_arg5)) (m (c, main_arg6))
      (m (c, main_arg7)) (i 0) (i 1) := by
  refine (dats m 0 c).arrAt_eq_of_covers 8 _ (by decide +kernel) fun t hf y => ?_
  blk_simp
  rw [after0_8]
  exact point m c t y

end Cert.Mla.Tail

end
-- ==== Proof.Tail.Ref.lean ====
/-
  What the reference computes.
-/
module

public import proofs.«01_k».proof.Proof.Tail.Spec
public import proofs.«01_k».proof.Proof.Gen.Reference2Ideal.Read

@[expose] public section

noncomputable section

namespace Cert.Mla.Tail

open Cert.Reference2Ideal Cert.Reference2Ideal.Read
open Idealize.ShloMosaic Idealize.ShloMosaic.TcCoe

/-- A product with the two outputs side by side is the sum of the two products. -/
theorem mixed_ref (x0 x1 : Vec Ideal S65536x512 .bf16) (x4 : Vec Ideal S1x1024x1024 .f32) (t : Fin 65536) (j : Fin 1024) :
    val_main_v3 (F := Ideal) x0 x1 x4 (ix2 t j) = mixed (fun k => x0 (ix2 t k)) (fun k => x1 (ix2 t k)) (fun k j => x4 (ix3 0 k j)) j := by
  rw [val_main_v3_apply]
  refine (Fin.sum_univ_add (a := 512) (b := 512) _).trans ?_
  pointwise [val_main_v1, val_main_v0, val_main_v2, mixed]
  refine congrArg₂ (· + ·) (Finset.sum_congr rfl fun k _ => ?_) (Finset.sum_congr rfl fun k _ => ?_)
  · rw [dif_pos (show (Fin.castAdd 512 k).val < 512 from k.isLt)]
    rfl
  · rw [dif_neg (show ¬ (Fin.natAdd 512 k).val < 512 by simp)]
    have e : (⟨(Fin.natAdd 512 k).val - 512, by simp⟩ : Fin 512) = k := Fin.ext (by simp)
    rw [e]
    rfl

theorem ref_apply (x0 x1 : Vec Ideal S65536x512 .bf16) (x2 : Vec Ideal S65536x1024 .f32) (x3 : Vec Ideal S2x65536x256 .f32)
    (x4 : Vec Ideal S1x1024x1024 .f32) (x5 : Vec Ideal S2x1024 .f32) (x6 : Vec Ideal S2x1024x1024 .f32) (x7 : Vec Ideal S2x256x1024 .f32)
    (t : Fin 65536) (j : Fin 1024) :
    val_main_v35 (F := Ideal) x0 x1 x2 x3 x4 x5 x6 x7 (ix2 t j) = tailOut x0 x1 x2 x3 x4 x5 x6 x7 t j := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, mixed_ref, tailOut, gated, added, normed]
  rfl

end Cert.Mla.Tail

end
-- ==== Proof.Tail.Value.lean ====
/-
  The second layer's tail: the kernel and the reference compute the same array.
-/
module

public import proofs.«01_k».proof.Defs
public import proofs.«01_k».proof.Proof.Tail.Array
public import proofs.«01_k».proof.Proof.Tail.Ref
public import proofs.«01_k».proof.Proof.Gen.Kernel2Ideal
public import proofs.«01_k».proof.Proof.Gen.Reference2Ideal

@[expose] public section

noncomputable section

namespace Cert.Mla.Tail

open Idealize.ShloMosaic Idealize.ShloMosaic.TcCoe Idealize.SL.Sem

/-- Over the extended reals, the tail's kernel computes what its reference does. -/
theorem value : Cert.algebraic_Kernel2Ideal_Reference2Ideal := by
  intro m g m' g' _ heq
  refine ⟨fun c => fun i : Cert.Kernel2Ideal.S65536x1024.Idx => tailOut (m (c, Cert.Kernel2Ideal.main_arg0)) (m (c, Cert.Kernel2Ideal.main_arg1))
      (m (c, Cert.Kernel2Ideal.main_arg2)) (m (c, Cert.Kernel2Ideal.main_arg3)) (m (c, Cert.Kernel2Ideal.main_arg4)) (m (c, Cert.Kernel2Ideal.main_arg5))
      (m (c, Cert.Kernel2Ideal.main_arg6)) (m (c, Cert.Kernel2Ideal.main_arg7)) (i 0) (i 1), ?_, ?_⟩
  · exact (θ_run _ _ _).mono (fun r h c => ⟨(h c).1.trans (final m c), (h c).2⟩) (Cert.Kernel2Ideal.Value.run_blocks m g)
  · refine (θ_run _ _ _).mono (fun r h c => ⟨((h c).1.trans ?_), (h c).2⟩) (Cert.Reference2Ideal.Value.run m' g')
    obtain ⟨h0, h1, h2, h3, h4, h5, h6, h7⟩ := heq c
    rw [Cert.Reference2Ideal.Read.val_main_v35_eq, h0, h1, h2, h3, h4, h5, h6, h7]
    refine funext fun i : Cert.Kernel2Ideal.S65536x1024.Idx => ?_
    exact (congrArg _ (eq_ix2 i)).trans (ref_apply _ _ _ _ _ _ _ _ (i 0) (i 1))

end Cert.Mla.Tail

end
-- ==== Proof.In.Spec.lean ====
/-
  The first layer's input projections as functions of their arrays.
-/
module

public import proofs.«01_k».proof.Proof.Tail.Spec

@[expose] public section

noncomputable section

namespace Cert.Mla.In

open Idealize.ShloMosaic

/-- The normalised row through 512 of the weight's columns, from column `o`. -/
def proj (x g : Fin 1024 → EReal) (w : Fin 1024 → Fin 3584 → EReal) (o : Fin 3073) (j : Fin 512) : EReal :=
  ∑ k, Tail.normed x g k * w k ⟨o.val + j.val, by omega⟩

/-- The query's scale. -/
def scaled (z : Fin 512 → EReal) (j : Fin 512) : EReal := z j * Ideal.ofBits .f32 0x3E000000#32

/-- `a` gated by `b`. -/
def glu (a b : Fin 512 → EReal) (j : Fin 512) : EReal := a j * Ideal.logistic (b j)

/-- The six outputs of one row: query, key, value, the two gates about the gated linear unit. -/
def outs (z : Fin 3073 → Fin 512 → EReal) : Fin 6 → Fin 512 → EReal :=
  ![scaled (z 0), z 512, z 1024, glu (z 1536) (z 1536), glu (z 2048) (z 2560), glu (z 3072) (z 3072)]

/-- The first layer's six input projections, of the residual stream, the gains and the weights. -/
def inOut (x : (⟨2, ![65536, 1024]⟩ : Shape).Idx → EReal) (g : (⟨2, ![2, 1024]⟩ : Shape).Idx → EReal)
    (w : (⟨3, ![1, 1024, 3584]⟩ : Shape).Idx → EReal) (n : Fin 6) (t : Fin 65536) (j : Fin 512) : EReal :=
  outs (proj (fun k => x (ix2 t k)) (fun k => g (ix2 0 k)) fun k j => w (ix3 0 k j)) n j

end Cert.Mla.In

end
-- ==== Proof.In.Block.lean ====
/-
  What the kernel computes of one block of rows.
-/
module

public import proofs.«01_k».proof.Proof.In.Spec
public import proofs.«01_k».proof.Proof.Gen.Kernel3Ideal.Value

@[expose] public section

noncomputable section

namespace Cert.Mla.In

open Cert.Kernel3Ideal Cert.Kernel3Ideal.Gen
open Idealize.ShloMosaic Idealize.ShloMosaic.TcCoe

variable (x : Vec Ideal S1024x1024 .f32) (g : Vec Ideal S1x1024 .f32) (w : Vec Ideal S1024x3584 .bf16) (r : Fin 1024) (j : Fin 512)

/-- The block's normalised rows. -/
theorem pay4_apply (k : Fin 1024) : k0_pay4 x g (ix2 r k) = Tail.normed (fun k => x (ix2 r k)) (fun k => g (ix2 0 k)) k := by
  pointwise [k0_pay4, Tail.normed]

/-- What a block of rows projects to, by column. -/
abbrev cols : Fin 3073 → Fin 512 → EReal := proj (fun k => x (ix2 r k)) (fun k => g (ix2 0 k)) fun k j => w (ix2 k j)

theorem out3_apply : out0_3 x g w (ix2 r j) = scaled (cols x g w r 0) j := by
  unfold out0_3
  frame_out
  pointwise [k0_pay5, pay4_apply, scaled, proj]

theorem out4_apply : out0_4 x g w (ix2 r j) = cols x g w r 512 j := by
  unfold out0_4
  frame_out
  pointwise [k0_pay6, pay4_apply, proj]

theorem out5_apply : out0_5 x g w (ix2 r j) = cols x g w r 1024 j := by
  unfold out0_5
  frame_out
  pointwise [k0_pay7, pay4_apply, proj]

theorem out6_apply : out0_6 x g w (ix2 r j) = glu (cols x g w r 1536) (cols x g w r 1536) j := by
  unfold out0_6 k0_pay8
  frame_out
  pointwise [k0_pay1, pay4_apply, glu, proj]

theorem out7_apply : out0_7 x g w (ix2 r j) = glu (cols x g w r 2048) (cols x g w r 2560) j := by
  unfold out0_7 k0_pay8
  frame_out
  pointwise [k0_pay2, pay4_apply, glu, proj]

theorem out8_apply : out0_8 x g w (ix2 r j) = glu (cols x g w r 3072) (cols x g w r 3072) j := by
  unfold out0_8 k0_pay8
  frame_out
  pointwise [k0_pay3, pay4_apply, glu, proj]

end Cert.Mla.In

end
-- ==== Proof.In.Array.lean ====
/-
  What the output arrays hold after the run.
-/
module

public import proofs.«01_k».proof.Proof.In.Block

@[expose] public section

noncomputable section

namespace Cert.Mla.In

open Cert.Kernel3Ideal Cert.Kernel3Ideal.Gen
open Idealize.ShloMosaic Idealize.ShloMosaic.TcCoe

variable (m : (ℓ : Loc nD τ sig) → Buf (Elt Ideal) ℓ)

/-- The input windows' places: a block of rows per grid point, and the gain and the weight whole. -/
theorem idx : ∀ t : Fin cfg0.N, win0_0.index t = ![t.val, 0] ∧ win0_1.index t = ![0, 0] ∧ win0_2.index t = ![0, 0] :=
  (by decide +kernel : ∀ t : Fin grid0.N, _)

/-- The output windows' places: a block of rows per grid point. -/
theorem idxOut : ∀ t : Fin cfg0.N, win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The token of a block's row. -/
def row (t : Fin cfg0.N) (r : Fin 1024) : Fin 65536 := ⟨t.val * 1024 + r.val, by have h : t.val < 64 := t.isLt; omega⟩

/-- A block's projections are its tokens'. -/
theorem cols_iblk (c : Dev nD) (t : Fin cfg0.N) (r : Fin 1024) : cols (iblk m c 0 t) (iblk m c 1 t) (iblk m c 2 t) r =
    proj (fun k => m (c, main_arg0) (ix2 (row t r) k)) (fun k => m (c, main_arg1) (ix2 0 k)) fun k j => m (c, main_arg2) (ix3 0 k j) := by
  obtain ⟨h0, h1, h2⟩ := idx t
  unfold cols row
  blk_point [iblk, V, h0, h1, h2]

/-- The array of output window 3 after the run. -/
theorem final3 (c : Dev nD) : (dats m 0 c).arrAt 3 cfg0.N = fun i : S65536x512.Idx => inOut (m (c, main_arg0)) (m (c, main_arg1)) (m (c, main_arg2)) 0 (i 0) (i 1) := by
  refine (dats m 0 c).arrAt_eq_of_covers 3 _ (by decide +kernel) fun t hf y => ?_
  blk_simp
  rw [after0_3]
  obtain ⟨r, j, rfl⟩ : ∃ (r : Fin 1024) (j : Fin 512), (y : S1024x512.Idx) = ix2 r j := ⟨y 0, y 1, eq_ix2 (n0 := 1024) (n1 := 512) y⟩
  have e : (win0_3.blk t).view.emb (ix2 r j) = ix2 (row t r) j := by
    unfold row
    blk_ext [idxOut t]
  refine (out3_apply _ _ _ _ _).trans ?_
  rw [cols_iblk, e]
  rfl

/-- The array of output window 4 after the run. -/
theorem final4 (c : Dev nD) : (dats m 0 c).arrAt 4 cfg0.N = fun i : S65536x512.Idx => inOut (m (c, main_arg0)) (m (c, main_arg1)) (m (c, main_arg2)) 1 (i 0) (i 1) := by
  refine (dats m 0 c).arrAt_eq_of_covers 4 _ (by decide +kernel) fun t hf y => ?_
  blk_simp
  rw [after0_4]
  obtain ⟨r, j, rfl⟩ : ∃ (r : Fin 1024) (j : Fin 512), (y : S1024x512.Idx) = ix2 r j := ⟨y 0, y 1, eq_ix2 (n0 := 1024) (n1 := 512) y⟩
  have e : (win0_4.blk t).view.emb (ix2 r j) = ix2 (row t r) j := by
    unfold row
    blk_ext [idxOut t]
  refine (out4_apply _ _ _ _ _).trans ?_
  rw [cols_iblk, e]
  rfl

/-- The array of output window 5 after the run. -/
theorem final5 (c : Dev nD) : (dats m 0 c).arrAt 5 cfg0.N = fun i : S65536x512.Idx => inOut (m (c, main_arg0)) (m (c, main_arg1)) (m (c, main_arg2)) 2 (i 0) (i 1) := by
  refine (dats m 0 c).arrAt_eq_of_covers 5 _ (by decide +kernel) fun t hf y => ?_
  blk_simp
  rw [after0_5]
  obtain ⟨r, j, rfl⟩ : ∃ (r : Fin 1024) (j : Fin 512), (y : S1024x512.Idx) = ix2 r j := ⟨y 0, y 1, eq_ix2 (n0 := 1024) (n1 := 512) y⟩
  have e : (win0_5.blk t).view.emb (ix2 r j) = ix2 (row t r) j := by
    unfold row
    blk_ext [idxOut t]
  refine (out5_apply _ _ _ _ _).trans ?_
  rw [cols_iblk, e]
  rfl

/-- The array of output window 6 after the run. -/
theorem final6 (c : Dev nD) : (dats m 0 c).arrAt 6 cfg0.N = fun i : S65536x512.Idx => inOut (m (c, main_arg0)) (m (c, main_arg1)) (m (c, main_arg2)) 3 (i 0) (i 1) := by
  refine (dats m 0 c).arrAt_eq_of_covers 6 _ (by decide +kernel) fun t hf y => ?_
  blk_simp
  rw [after0_6]
  obtain ⟨r, j, rfl⟩ : ∃ (r : Fin 1024) (j : Fin 512), (y : S1024x512.Idx) = ix2 r j := ⟨y 0, y 1, eq_ix2 (n0 := 1024) (n1 := 512) y⟩
  have e : (win0_6.blk t).view.emb (ix2 r j) = ix2 (row t r) j := by
    unfold row
    blk_ext [idxOut t]
  refine (out6_apply _ _ _ _ _).trans ?_
  rw [cols_iblk, e]
  rfl

/-- The array of output window 7 after the run. -/
theorem final7 (c : Dev nD) : (dats m 0 c).arrAt 7 cfg0.N = fun i : S65536x512.Idx => inOut (m (c, main_arg0)) (m (c, main_arg1)) (m (c, main_arg2)) 4 (i 0) (i 1) := by
  refine (dats m 0 c).arrAt_eq_of_covers 7 _ (by decide +kernel) fun t hf y => ?_
  blk_simp
  rw [after0_7]
  obtain ⟨r, j, rfl⟩ : ∃ (r : Fin 1024) (j : Fin 512), (y : S1024x512.Idx) = ix2 r j := ⟨y 0, y 1, eq_ix2 (n0 := 1024) (n1 := 512) y⟩
  have e : (win0_7.blk t).view.emb (ix2 r j) = ix2 (row t r) j := by
    unfold row
    blk_ext [idxOut t]
  refine (out7_apply _ _ _ _ _).trans ?_
  rw [cols_iblk, e]
  rfl

/-- The array of output window 8 after the run. -/
theorem final8 (c : Dev nD) : (dats m 0 c).arrAt 8 cfg0.N = fun i : S65536x512.Idx => inOut (m (c, main_arg0)) (m (c, main_arg1)) (m (c, main_arg2)) 5 (i 0) (i 1) := by
  refine (dats m 0 c).arrAt_eq_of_covers 8 _ (by decide +kernel) fun t hf y => ?_
  blk_simp
  rw [after0_8]
  obtain ⟨r, j, rfl⟩ : ∃ (r : Fin 1024) (j : Fin 512), (y : S1024x512.Idx) = ix2 r j := ⟨y 0, y 1, eq_ix2 (n0 := 1024) (n1 := 512) y⟩
  have e : (win0_8.blk t).view.emb (ix2 r j) = ix2 (row t r) j := by
    unfold row
    blk_ext [idxOut t]
  refine (out8_apply _ _ _ _ _).trans ?_
  rw [cols_iblk, e]
  rfl

end Cert.Mla.In

end
-- ==== Proof.In.Ref.lean ====
/-
  The reference's six results, by token and column.
-/
module

public import proofs.«01_k».proof.Proof.In.Spec
public import proofs.«01_k».proof.Proof.Gen.Reference3Ideal.Read

@[expose] public section

noncomputable section

namespace Cert.Mla.In

open Cert.Reference3Ideal Cert.Reference3Ideal.Read
open Idealize.ShloMosaic

variable (x0 : Vec Ideal S65536x1024 .f32) (x1 : Vec Ideal S2x1024 .f32) (x2 : Vec Ideal S1x1024x3584 .f32) (t : Fin 65536) (j : Fin 512)

/-- The reference's projections, by token and column. -/
theorem proj_ref (j : Fin 3584) : val_main_v16 x0 x1 x2 (ix2 t j) =
    ∑ k, Tail.normed (fun k => x0 (ix2 t k)) (fun k => x1 (ix2 0 k)) k * x2 (ix3 0 k j) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Tail.normed]

/-- The reference's result 0. -/
theorem ref0 : val_main_v35 x0 x1 x2 (ix2 t j) = inOut x0 x1 x2 0 t j := by
  change _ = outs _ 0 j
  pointwise [val_main_v35, val_main_v32, val_main_v31, val_main_v17, val_main_cst_2, val_main_cst_3, val_main_cst_4, proj_ref, outs, scaled, glu, proj]

/-- The reference's result 1. -/
theorem ref1 : val_main_v36 x0 x1 x2 (ix2 t j) = inOut x0 x1 x2 1 t j := by
  change _ = outs _ 1 j
  pointwise [val_main_v36, val_main_v18, val_main_cst_2, val_main_cst_3, val_main_cst_4, proj_ref, outs, scaled, glu, proj]

/-- The reference's result 2. -/
theorem ref2 : val_main_v37 x0 x1 x2 (ix2 t j) = inOut x0 x1 x2 2 t j := by
  change _ = outs _ 2 j
  pointwise [val_main_v37, val_main_v19, val_main_cst_2, val_main_cst_3, val_main_cst_4, proj_ref, outs, scaled, glu, proj]

/-- The reference's result 3. -/
theorem ref3 : val_main_v38 x0 x1 x2 (ix2 t j) = inOut x0 x1 x2 3 t j := by
  change _ = outs _ 3 j
  pointwise [val_main_v38, val_main_v33, val_main_v20, val_main_call0_v5, val_main_call0_v4, val_main_call0_v3, val_main_call0_v2, val_main_call0_v1, val_main_call0_v0, val_main_call0_cst, val_main_call0_cst_0, val_main_cst_2, val_main_cst_3, val_main_cst_4, proj_ref, outs, scaled, glu, proj]
  rfl

/-- The reference's result 4. -/
theorem ref4 : val_main_v39 x0 x1 x2 (ix2 t j) = inOut x0 x1 x2 4 t j := by
  change _ = outs _ 4 j
  pointwise [val_main_v39, val_main_v30, val_main_v29, val_main_v28, val_main_v27, val_main_v26, val_main_v25, val_main_v24, val_main_v22, val_main_v21, val_main_cst_2, val_main_cst_3, val_main_cst_4, proj_ref, outs, scaled, glu, proj]
  rfl

/-- The reference's result 5. -/
theorem ref5 : val_main_v40 x0 x1 x2 (ix2 t j) = inOut x0 x1 x2 5 t j := by
  change _ = outs _ 5 j
  pointwise [val_main_v40, val_main_v34, val_main_v23, val_main_call1_v5, val_main_call1_v4, val_main_call1_v3, val_main_call1_v2, val_main_call1_v1, val_main_call1_v0, val_main_call1_cst, val_main_call1_cst_0, val_main_cst_2, val_main_cst_3, val_main_cst_4, proj_ref, outs, scaled, glu, proj]
  rfl

end Cert.Mla.In

end
-- ==== Proof.In.Value.lean ====
/-
  The first layer's input projections: the kernel and the reference compute the same arrays.
-/
module

public import proofs.«01_k».proof.Defs
public import proofs.«01_k».proof.Proof.In.Array
public import proofs.«01_k».proof.Proof.In.Ref
public import proofs.«01_k».proof.Proof.Gen.Kernel3Ideal
public import proofs.«01_k».proof.Proof.Gen.Reference3Ideal

@[expose] public section

noncomputable section

namespace Cert.Mla.In

open Idealize.ShloMosaic Idealize.ShloMosaic.TcCoe Idealize.SL.Sem

/-- Output `n` of the projections of device `c`'s arguments. -/
abbrev out (m : (ℓ : Loc Cert.Kernel3Ideal.nD Cert.Kernel3Ideal.τ Cert.Kernel3Ideal.sig) → Buf (Elt Ideal) ℓ) (n : Fin 6) (c : Dev Cert.Kernel3Ideal.nD) : Cert.Kernel3Ideal.S65536x512.Idx → EReal := fun i =>
  inOut (m (c, Cert.Kernel3Ideal.main_arg0)) (m (c, Cert.Kernel3Ideal.main_arg1)) (m (c, Cert.Kernel3Ideal.main_arg2)) n (i 0) (i 1)

/-- An array that is `f` at every token and column is `f` of its indices. -/
theorem byRow {v : Cert.Kernel3Ideal.S65536x512.Idx → EReal} {f : Fin 65536 → Fin 512 → EReal} (h : ∀ t j, v (ix2 t j) = f t j) : v = fun i => f (i 0) (i 1) :=
  funext fun i => (congrArg v (eq_ix2 i)).trans (h (i 0) (i 1))

/-- Over the extended reals, the kernel's six projections are the reference's. -/
theorem value : Cert.algebraic_Kernel3Ideal_Reference3Ideal := by
  intro m g m' g' _ heq
  refine ⟨out m 0, out m 1, out m 2, out m 3, out m 4, out m 5, ?_, ?_⟩
  · refine (θ_run _ _ _).mono (fun r h c => ?_) (Cert.Kernel3Ideal.Value.run_blocks m g)
    obtain ⟨h0, h1, h2, h3, h4, h5, h⟩ := h c
    exact ⟨h0.trans (final3 m c), h1.trans (final4 m c), h2.trans (final5 m c), h3.trans (final6 m c), h4.trans (final7 m c), h5.trans (final8 m c), h⟩
  · refine (θ_run _ _ _).mono (fun r h c => ?_) (Cert.Reference3Ideal.Value.run m' g')
    obtain ⟨a0, a1, a2⟩ := heq c
    obtain ⟨h0, h1, h2, h3, h4, h5, h⟩ := h c
    have e : ∀ n, (fun i : Cert.Kernel3Ideal.S65536x512.Idx => inOut (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) n (i 0) (i 1)) = out m n c := by
      intro n
      rw [a0, a1, a2]
    refine ⟨h0.trans ((Cert.Reference3Ideal.Read.val_main_v35_eq _ _ _).trans ((byRow (ref0 _ _ _)).trans (e 0))),
      h1.trans ((Cert.Reference3Ideal.Read.val_main_v36_eq _ _ _).trans ((byRow (ref1 _ _ _)).trans (e 1))),
      h2.trans ((Cert.Reference3Ideal.Read.val_main_v37_eq _ _ _).trans ((byRow (ref2 _ _ _)).trans (e 2))),
      h3.trans ((Cert.Reference3Ideal.Read.val_main_v38_eq _ _ _).trans ((byRow (ref3 _ _ _)).trans (e 3))),
      h4.trans ((Cert.Reference3Ideal.Read.val_main_v39_eq _ _ _).trans ((byRow (ref4 _ _ _)).trans (e 4))),
      h5.trans ((Cert.Reference3Ideal.Read.val_main_v40_eq _ _ _).trans ((byRow (ref5 _ _ _)).trans (e 5))), h⟩

end Cert.Mla.In

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference3Ideal
public import proofs.«01_k».proof.Proof.Gen.Kernel3Ideal
public import proofs.«01_k».proof.Proof.Gen.Kernel3
public import proofs.«01_k».proof.Proof.Gen.Reference2Ideal
public import proofs.«01_k».proof.Proof.Gen.Kernel2Ideal
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite_scores
public import proofs.«01_k».proof.Proof.Frames
public import proofs.«01_k».proof.Proof.Bits.Frames
public import proofs.«01_k».proof.Proof.Value
public import proofs.«01_k».proof.Proof.Tail.Value
public import proofs.«01_k».proof.Proof.In.Value
public import Idealize.ShloMosaic.Adequacy
public import Idealize.ShloMosaic.Init

@[expose] public section

noncomputable section

namespace Cert.Proof

open Idealize.ShloMosaic Idealize.SL.Sem Cert.Kernel

/-- The kernel as compiled ends with its arguments as launched. -/
theorem frame_kernel : Cert.quiescent_Kernel := fun m ρ _ => Cert.MlaBits.frame_run (F := Bits) m ρ

/-- So does the kernel over the extended reals. -/
theorem frame_ideal : Cert.quiescent_KernelIdeal := fun m ρ _ => Cert.Mla.frame_run (F := Ideal) m ρ

/-- At finite queries and keys too. -/
theorem frame_ideal_finite : Cert.quiescent_KernelIdeal_pre_finite_scores := fun m ρ _ => Cert.Mla.frame_run (F := Ideal) m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At finite queries and keys too. -/
theorem frame_reference_finite : Cert.quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The layer's tail: its reference ends with its arguments as launched. -/
theorem frame_reference_tail : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The first layer's projections: their reference ends with its arguments as launched. -/
theorem frame_reference_in : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_scores.Gen.facts, frame_kernel, frame_ideal, frame_ideal_finite, frame_reference, frame_reference_finite,
  fun m ρ _ => Cert.Kernel2.Gen.frame m ρ, fun m ρ _ => Cert.Kernel2Ideal.Gen.frame m ρ, frame_reference_tail,
  fun m ρ _ => Cert.Kernel3.Gen.frame m ρ, fun m ρ _ => Cert.Kernel3Ideal.Gen.frame m ρ, frame_reference_in,
  IdealRules.named_const.statement Cert.KernelIdeal.κ "log2e" .f32 0x3FB8AA3B#32 (((Real.log 2)⁻¹ : ℝ) : EReal) rfl,
  Cert.Mla.value, trivial, Cert.Mla.Tail.value, trivial, Cert.Mla.In.value⟩

end Cert.Proof

end
